-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 1024]⟩ ⟨2, ![2048, 1024]⟩ (Layout.meshBlock [2, 2] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![2048, 512]⟩ ⟨2, ![2048, 1024]⟩ (Layout.meshBlock [2, 2] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x1024 : Shape := ⟨2, ![1024, 1024]⟩
abbrev S2048x512 : Shape := ⟨2, ![2048, 512]⟩
abbrev S9x64x512 : Shape := ⟨3, ![9, 64, 512]⟩
abbrev S7x64x512 : Shape := ⟨3, ![7, 64, 512]⟩
abbrev S9 : Shape := ⟨1, ![9]⟩
abbrev S1 : Shape := ⟨1, ![1]⟩
abbrev S7 : Shape := ⟨1, ![7]⟩
abbrev S_ : Shape := ⟨0, ![]⟩
abbrev S1x64x512 : Shape := ⟨3, ![1, 64, 512]⟩
abbrev S64x512 : Shape := ⟨2, ![64, 512]⟩
abbrev S1024x512 : Shape := ⟨2, ![1024, 512]⟩

abbrev nBuf : Space → Nat
  | .hbm => 2
  | .vmem => 6
  | .smem => 0
  | _ => 0

abbrev bufTy : (tb : Table) → Fin (tcTables nBuf tb) → BufTy
  | .hbm, ⟨0, _⟩ => ⟨S1024x1024, .f32⟩
  | .hbm, ⟨1, _⟩ => ⟨S2048x512, .f32⟩
  | .local _ .vmem, ⟨0, _⟩ => ⟨S9x64x512, .f32⟩
  | .local _ .vmem, ⟨1, _⟩ => ⟨S9x64x512, .bf16⟩
  | .local _ .vmem, ⟨2, _⟩ => ⟨S9x64x512, .bf16⟩
  | .local _ .vmem, ⟨3, _⟩ => ⟨S7x64x512, .bf16⟩
  | .local _ .vmem, ⟨4, _⟩ => ⟨S9x64x512, .f32⟩
  | .local _ .vmem, ⟨5, _⟩ => ⟨S7x64x512, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  (ofTc nBuf bufTy 1 58 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5 : BitVec 32 := 2#32
  let v9 : BitVec 32 := Scalar.muli v6 c2_i32_5
  let v10 : BitVec 32 := Scalar.addi c0_i32 v9
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6 : BitVec 32 := 1#32
  let v11 : BitVec 32 := Scalar.muli v5 c1_i32_6
  let v12 : BitVec 32 := Scalar.addi v10 v11
  v12.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v13 : BitVec 32 := Scalar.muli v2 c2_i32_8
  let v14 : BitVec 32 := Scalar.addi c0_i32_9 v13
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_10 : BitVec 32 := 1#32
  let v15 : BitVec 32 := Scalar.muli v7 c1_i32_10
  let v16 : BitVec 32 := Scalar.addi v14 v15
  v16.toNat
def k0_off1 (d0 : Dev nD) (c0_i32_11 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c448_i32 : BitVec 32 := 448#32
  let v17 : BitVec 32 := Scalar.muli v5 c448_i32
  let v18 : BitVec 32 := Scalar.addi v17 c0_i32_11
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c512_i32 : BitVec 32 := 512#32
  let v19 : BitVec 32 := Scalar.muli v6 c512_i32
  ![v18.toNat, v19.toNat]
def k0_off2 (d0 : Dev nD) : Fin 2 → Nat :=
  let c896_i32 : BitVec 32 := 896#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c512_i32_48 : BitVec 32 := 512#32
  let v73 : BitVec 32 := Scalar.muli v6 c512_i32_48
  ![896, v73.toNat]
def k0_off3 (d0 : Dev nD) : Fin 2 → Nat :=
  let c960_i32 : BitVec 32 := 960#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c512_i32_52 : BitVec 32 := 512#32
  let v79 : BitVec 32 := Scalar.muli v6 c512_i32_52
  ![960, v79.toNat]
def k0_off4 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32 : BitVec 32 := 1024#32
  let v86 : BitVec 32 := Scalar.muli v2 c1024_i32
  let c0_i32_58 : BitVec 32 := 0#32
  ![v86.toNat, 0]
def k0_off5 (d0 : Dev nD) : Fin 2 → Nat :=
  let c0_i32_59 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_56 : BitVec 32 := 512#32
  let v85 : BitVec 32 := Scalar.muli v2 c512_i32_56
  ![0, v85.toNat]
def k0_dev3 (d0 : Dev nD) : Nat :=
  let c0_i32_78 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_77 : BitVec 32 := 2#32
  let v105 : BitVec 32 := Scalar.muli v6 c2_i32_77
  let v106 : BitVec 32 := Scalar.addi c0_i32_78 v105
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_79 : BitVec 32 := 1#32
  let v107 : BitVec 32 := Scalar.muli v5 c1_i32_79
  let v108 : BitVec 32 := Scalar.addi v106 v107
  v108.toNat
def k0_dev4 (d0 : Dev nD) : Nat :=
  let c0_i32_101 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_100 : BitVec 32 := 2#32
  let v131 : BitVec 32 := Scalar.muli v6 c2_i32_100
  let v132 : BitVec 32 := Scalar.addi c0_i32_101 v131
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_102 : BitVec 32 := 1#32
  let v133 : BitVec 32 := Scalar.muli v5 c1_i32_102
  let v134 : BitVec 32 := Scalar.addi v132 v133
  v134.toNat
def k0_dev5 (d0 : Dev nD) : Nat :=
  let c0_i32_124 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_123 : BitVec 32 := 2#32
  let v157 : BitVec 32 := Scalar.muli v6 c2_i32_123
  let v158 : BitVec 32 := Scalar.addi c0_i32_124 v157
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_125 : BitVec 32 := 1#32
  let v159 : BitVec 32 := Scalar.muli v5 c1_i32_125
  let v160 : BitVec 32 := Scalar.addi v158 v159
  v160.toNat
def k0_dev6 (d0 : Dev nD) : Nat :=
  let c0_i32_147 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_146 : BitVec 32 := 2#32
  let v183 : BitVec 32 := Scalar.muli v6 c2_i32_146
  let v184 : BitVec 32 := Scalar.addi c0_i32_147 v183
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_148 : BitVec 32 := 1#32
  let v185 : BitVec 32 := Scalar.muli v5 c1_i32_148
  let v186 : BitVec 32 := Scalar.addi v184 v185
  v186.toNat
def k0_dev7 (d0 : Dev nD) : Nat :=
  let c0_i32_170 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_169 : BitVec 32 := 2#32
  let v209 : BitVec 32 := Scalar.muli v6 c2_i32_169
  let v210 : BitVec 32 := Scalar.addi c0_i32_170 v209
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_171 : BitVec 32 := 1#32
  let v211 : BitVec 32 := Scalar.muli v5 c1_i32_171
  let v212 : BitVec 32 := Scalar.addi v210 v211
  v212.toNat
def k0_dev8 (d0 : Dev nD) : Nat :=
  let c0_i32_193 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_192 : BitVec 32 := 2#32
  let v235 : BitVec 32 := Scalar.muli v6 c2_i32_192
  let v236 : BitVec 32 := Scalar.addi c0_i32_193 v235
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_194 : BitVec 32 := 1#32
  let v237 : BitVec 32 := Scalar.muli v5 c1_i32_194
  let v238 : BitVec 32 := Scalar.addi v236 v237
  v238.toNat
def k0_dev9 (d0 : Dev nD) : Nat :=
  let c0_i32_216 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_215 : BitVec 32 := 2#32
  let v261 : BitVec 32 := Scalar.muli v6 c2_i32_215
  let v262 : BitVec 32 := Scalar.addi c0_i32_216 v261
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_217 : BitVec 32 := 1#32
  let v263 : BitVec 32 := Scalar.muli v5 c1_i32_217
  let v264 : BitVec 32 := Scalar.addi v262 v263
  v264.toNat
def k0_dev10 (d0 : Dev nD) : Nat :=
  let c0_i32_238 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_237 : BitVec 32 := 2#32
  let v285 : BitVec 32 := Scalar.muli v6 c2_i32_237
  let v286 : BitVec 32 := Scalar.addi c0_i32_238 v285
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_239 : BitVec 32 := 1#32
  let v287 : BitVec 32 := Scalar.muli v5 c1_i32_239
  let v288 : BitVec 32 := Scalar.addi v286 v287
  v288.toNat
def k0_dev11 (d0 : Dev nD) : Nat :=
  let c0_i32_260 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_259 : BitVec 32 := 2#32
  let v309 : BitVec 32 := Scalar.muli v6 c2_i32_259
  let v310 : BitVec 32 := Scalar.addi c0_i32_260 v309
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_261 : BitVec 32 := 1#32
  let v311 : BitVec 32 := Scalar.muli v5 c1_i32_261
  let v312 : BitVec 32 := Scalar.addi v310 v311
  v312.toNat
def k0_dev12 (d0 : Dev nD) : Nat :=
  let c0_i32_282 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_281 : BitVec 32 := 2#32
  let v331 : BitVec 32 := Scalar.muli v2 c2_i32_281
  let v332 : BitVec 32 := Scalar.addi c0_i32_282 v331
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_283 : BitVec 32 := 1#32
  let v333 : BitVec 32 := Scalar.muli v7 c1_i32_283
  let v334 : BitVec 32 := Scalar.addi v332 v333
  v334.toNat
def k0_off6 (d0 : Dev nD) (c0_i32_296 : BitVec 32) : Fin 2 → Nat :=
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c1024_i32_294 : BitVec 32 := 1024#32
  let v349 : BitVec 32 := Scalar.muli v6 c1024_i32_294
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c448_i32_295 : BitVec 32 := 448#32
  let v350 : BitVec 32 := Scalar.muli v5 c448_i32_295
  let v351 : BitVec 32 := Scalar.addi v349 v350
  let v352 : BitVec 32 := Scalar.addi v351 c0_i32_296
  let c0_i32_299 : BitVec 32 := 0#32
  ![v352.toNat, 0]
def k0_dev13 (d0 : Dev nD) : Nat :=
  let c0_i32_318 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_317 : BitVec 32 := 2#32
  let v368 : BitVec 32 := Scalar.muli v2 c2_i32_317
  let v369 : BitVec 32 := Scalar.addi c0_i32_318 v368
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_319 : BitVec 32 := 1#32
  let v370 : BitVec 32 := Scalar.muli v7 c1_i32_319
  let v371 : BitVec 32 := Scalar.addi v369 v370
  v371.toNat
def k0_dev14 (d0 : Dev nD) : Nat :=
  let c0_i32_354 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_353 : BitVec 32 := 2#32
  let v405 : BitVec 32 := Scalar.muli v2 c2_i32_353
  let v406 : BitVec 32 := Scalar.addi c0_i32_354 v405
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_355 : BitVec 32 := 1#32
  let v407 : BitVec 32 := Scalar.muli v7 c1_i32_355
  let v408 : BitVec 32 := Scalar.addi v406 v407
  v408.toNat
def k0_dev15 (d0 : Dev nD) : Nat :=
  let c0_i32_390 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_389 : BitVec 32 := 2#32
  let v442 : BitVec 32 := Scalar.muli v2 c2_i32_389
  let v443 : BitVec 32 := Scalar.addi c0_i32_390 v442
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_391 : BitVec 32 := 1#32
  let v444 : BitVec 32 := Scalar.muli v7 c1_i32_391
  let v445 : BitVec 32 := Scalar.addi v443 v444
  v445.toNat
def k0_off7 (d0 : Dev nD) (c0_i32_429 : BitVec 32) : Fin 2 → Nat :=
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c1024_i32_427 : BitVec 32 := 1024#32
  let v485 : BitVec 32 := Scalar.muli v6 c1024_i32_427
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c448_i32_428 : BitVec 32 := 448#32
  let v486 : BitVec 32 := Scalar.muli v7 c448_i32_428
  let v487 : BitVec 32 := Scalar.addi v485 v486
  let v488 : BitVec 32 := Scalar.addi v487 c0_i32_429
  let c0_i32_432 : BitVec 32 := 0#32
  ![v488.toNat, 0]
def k0_dev16 (d0 : Dev nD) : Nat :=
  let c0_i32_451 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_450 : BitVec 32 := 2#32
  let v504 : BitVec 32 := Scalar.muli v2 c2_i32_450
  let v505 : BitVec 32 := Scalar.addi c0_i32_451 v504
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_452 : BitVec 32 := 1#32
  let v506 : BitVec 32 := Scalar.muli v7 c1_i32_452
  let v507 : BitVec 32 := Scalar.addi v505 v506
  v507.toNat
def k0_dev17 (d0 : Dev nD) : Nat :=
  let c0_i32_512 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_511 : BitVec 32 := 2#32
  let v566 : BitVec 32 := Scalar.muli v2 c2_i32_511
  let v567 : BitVec 32 := Scalar.addi c0_i32_512 v566
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_513 : BitVec 32 := 1#32
  let v568 : BitVec 32 := Scalar.muli v7 c1_i32_513
  let v569 : BitVec 32 := Scalar.addi v567 v568
  v569.toNat
def k0_dev18 (d0 : Dev nD) : Nat :=
  let c0_i32_573 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_572 : BitVec 32 := 2#32
  let v628 : BitVec 32 := Scalar.muli v2 c2_i32_572
  let v629 : BitVec 32 := Scalar.addi c0_i32_573 v628
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_574 : BitVec 32 := 1#32
  let v630 : BitVec 32 := Scalar.muli v7 c1_i32_574
  let v631 : BitVec 32 := Scalar.addi v629 v630
  v631.toNat
def k0_off8 (d0 : Dev nD) (c0_i32_637 : BitVec 32) : Fin 2 → Nat :=
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c1024_i32_635 : BitVec 32 := 1024#32
  let v696 : BitVec 32 := Scalar.muli v6 c1024_i32_635
  let c896_i32_636 : BitVec 32 := 896#32
  let v697 : BitVec 32 := Scalar.addi v696 c896_i32_636
  let v698 : BitVec 32 := Scalar.addi v697 c0_i32_637
  let c0_i32_640 : BitVec 32 := 0#32
  ![v698.toNat, 0]
-- ==== ReferenceIdeal.lean ====
abbrev S2048x1024 : Shape := ⟨2, ![2048, 1024]⟩

abbrev nBuf : Space → Nat
  | .hbm => 1
  | .vmem => 0
  | .smem => 0
  | _ => 0

abbrev bufTy : (tb : Table) → Fin (tcTables nBuf tb) → BufTy
  | .hbm, ⟨0, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Slots.lean ====
/-
The memory the kernel works on: the slots of its scratch buffers, the windows of its argument and result,
where each of them lies, and how whole buffers split into them.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Reshard

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The mesh -/

/-- The device across the first mesh axis. -/
def xp (c : Dev nD) : Dev nD := ⟨(c.val + 2) % 4, Nat.mod_lt _ (by decide)⟩
/-- The device across the second mesh axis. -/
def yp (c : Dev nD) : Dev nD := ⟨c.val / 2 * 2 + (1 - c.val % 2), by have : c.val < 4 := c.isLt; show _ < 4; omega⟩

theorem xp_xp (c : Dev nD) : xp (xp c) = c := by revert c; decide
theorem yp_yp (c : Dev nD) : yp (yp c) = c := by revert c; decide
theorem xp_ne_yp (c : Dev nD) : xp c ≠ yp c := by revert c; decide
/-- Crossing the first axis is a permutation of the devices, -/
def xpE : Dev nD ≃ Dev nD := ⟨xp, xp, xp_xp, xp_xp⟩
/-- and so is crossing the second. -/
def ypE : Dev nD ≃ Dev nD := ⟨yp, yp, yp_yp, yp_yp⟩

/-! ## The slots of the scratch buffers -/

theorem inb9 (i : Fin 9) : ∀ a, (![i.val, 0, 0] : Fin 3 → ℕ) a + S1x64x512.size a ≤ S9x64x512.size a := by revert i; decide
theorem inb7 (i : Fin 7) : ∀ a, (![i.val, 0, 0] : Fin 3 → ℕ) a + S1x64x512.size a ≤ S7x64x512.size a := by revert i; decide

/-- Slot `i` of a buffer of nine, as a rectangle of it. -/
abbrev rect9 (i : Fin 9) : Rect S9x64x512 := Rect.unit (s := S9x64x512) ![i.val, 0, 0] S1x64x512.size (inb9 i)
/-- Slot `i` of a buffer of seven. -/
abbrev rect7 (i : Fin 7) : Rect S7x64x512 := Rect.unit (s := S7x64x512) ![i.val, 0, 0] S1x64x512.size (inb7 i)

/-- Slot `i` of a buffer of nine, as the 64×512 array the transfers name. -/
abbrev slot9 {e : EltTy} (b : Memref sig .tc .vmem S9x64x512 e) (i : Fin 9) : Memref sig .tc .vmem S64x512 e :=
  (b.slice (rect9 i) (fun _ => rfl)).squeeze S64x512 squeezes_S1x64x512_S64x512
/-- Slot `i` of a buffer of seven. -/
abbrev slot7 {e : EltTy} (b : Memref sig .tc .vmem S7x64x512 e) (i : Fin 7) : Memref sig .tc .vmem S64x512 e :=
  (b.slice (rect7 i) (fun _ => rfl)).squeeze S64x512 squeezes_S1x64x512_S64x512

abbrev xM : Memref sig .tc .hbm S1024x1024 .f32 := Memref.whole main_arg0
abbrev oM : Memref sig .tc .hbm S2048x512 .f32 := Memref.whole main_v1
abbrev stageM : Memref sig .tc .vmem S9x64x512 .f32 := Memref.whole cc0_scratch0
abbrev sendM : Memref sig .tc .vmem S9x64x512 .bf16 := Memref.whole cc0_scratch1
abbrev rxM : Memref sig .tc .vmem S9x64x512 .bf16 := Memref.whole cc0_scratch2
abbrev ryM : Memref sig .tc .vmem S7x64x512 .bf16 := Memref.whole cc0_scratch3
abbrev rxfM : Memref sig .tc .vmem S9x64x512 .f32 := Memref.whole cc0_scratch4
abbrev ryfM : Memref sig .tc .vmem S7x64x512 .f32 := Memref.whole cc0_scratch5

/-! ## The windows of the argument and of the result -/

/-- Where the rows device `c` sends from slot `i` begin in its argument. -/
abbrev xoff (c : Dev nD) (i : Fin 9) : Fin 2 → ℕ :=
  if i.val < 7 then k0_off1 c (BitVec.ofNat 32 (64 * i.val)) else if i.val = 7 then k0_off2 c else k0_off3 c
/-- Where the rows received in slot `i` across the first axis go in the result. -/
abbrev ooffX (c : Dev nD) (i : Fin 9) : Fin 2 → ℕ :=
  if i.val < 7 then k0_off6 c (BitVec.ofNat 32 (64 * i.val)) else k0_off8 c (BitVec.ofNat 32 (64 * (i.val - 7)))
/-- Where the rows received in slot `i` across the second axis go in the result. -/
abbrev ooffY (c : Dev nD) (i : Fin 7) : Fin 2 → ℕ := k0_off7 c (BitVec.ofNat 32 (64 * i.val))

theorem xoff_val (c : Dev nD) (i : Fin 9) : xoff c i 0 = (if i.val < 7 then c.val % 2 * 448 + 64 * i.val else 448 + 64 * i.val)
    ∧ xoff c i 1 = (1 - c.val / 2) * 512 := by revert c i; decide
theorem ooffX_val (c : Dev nD) (i : Fin 9) :
    ooffX c i 0 = (1 - c.val / 2) * 1024 + (if i.val < 7 then c.val % 2 * 448 + 64 * i.val else 448 + 64 * i.val)
    ∧ ooffX c i 1 = 0 := by revert c i; decide
theorem ooffY_val (c : Dev nD) (i : Fin 7) : ooffY c i 0 = (1 - c.val / 2) * 1024 + (1 - c.val % 2) * 448 + 64 * i.val
    ∧ ooffY c i 1 = 0 := by revert c i; decide
theorem off4_val (c : Dev nD) : k0_off4 c 0 = c.val / 2 * 1024 ∧ k0_off4 c 1 = 0 := by revert c; decide
theorem off5_val (c : Dev nD) : k0_off5 c 0 = 0 ∧ k0_off5 c 1 = c.val / 2 * 512 := by revert c; decide

theorem xoff_inb (c : Dev nD) (i : Fin 9) : ∀ a, xoff c i a + S64x512.size a ≤ S1024x1024.size a := by revert c i; decide
theorem ooffX_inb (c : Dev nD) (i : Fin 9) : ∀ a, ooffX c i a + S64x512.size a ≤ S2048x512.size a := by revert c i; decide
theorem ooffY_inb (c : Dev nD) (i : Fin 7) : ∀ a, ooffY c i a + S64x512.size a ≤ S2048x512.size a := by revert c i; decide

/-- The rows of the argument that slot `i` sends, at the columns the partner keeps. -/
abbrev xin (c : Dev nD) (i : Fin 9) : Memref sig .tc .hbm S64x512 .f32 :=
  xM.slice (Rect.unit (s := S1024x1024) (xoff c i) S64x512.size (xoff_inb c i)) (fun _ => rfl)
/-- The columns of the argument that device `c` keeps. -/
abbrev xloc (c : Dev nD) : Memref sig .tc .hbm S1024x512 .f32 :=
  xM.slice (Rect.unit (s := S1024x1024) (k0_off5 c) S1024x512.size (k0_off5_inb c)) (fun _ => rfl)
/-- The rows of the result filled from device `c`'s own argument. -/
abbrev oloc (c : Dev nD) : Memref sig .tc .hbm S1024x512 .f32 :=
  oM.slice (Rect.unit (s := S2048x512) (k0_off4 c) S1024x512.size (k0_off4_inb c)) (fun _ => rfl)
/-- The rows of the result filled from what slot `i` received across the first axis, -/
abbrev orx (c : Dev nD) (i : Fin 9) : Memref sig .tc .hbm S64x512 .f32 :=
  oM.slice (Rect.unit (s := S2048x512) (ooffX c i) S64x512.size (ooffX_inb c i)) (fun _ => rfl)
/-- and from what slot `i` received across the second. -/
abbrev ory (c : Dev nD) (i : Fin 7) : Memref sig .tc .hbm S64x512 .f32 :=
  oM.slice (Rect.unit (s := S2048x512) (ooffY c i) S64x512.size (ooffY_inb c i)) (fun _ => rfl)

/-! ## Where a slot's elements lie -/

/-- The element `j` of slot `i`, as an index of the buffer of nine, -/
def ix9 (i : Fin 9) (j : S64x512.Idx) : S9x64x512.Idx := (rect9 i).emb (Shape.reshapeEquiv squeezes_S1x64x512_S64x512.numel_eq j)
/-- of the buffer of seven. -/
def ix7 (i : Fin 7) (j : S64x512.Idx) : S7x64x512.Idx := (rect7 i).emb (Shape.reshapeEquiv squeezes_S1x64x512_S64x512.numel_eq j)

theorem unsqueeze (j : S64x512.Idx) :
    (Shape.reshapeEquiv squeezes_S1x64x512_S64x512.numel_eq j : S1x64x512.Idx) = (Fin.cons ⟨0, Nat.one_pos⟩ j : S1x64x512.Idx) :=
  Shape.reshapeEquiv_cons_one (d := ![64, 512]) _ j

theorem ix9_0 (i : Fin 9) (j : S64x512.Idx) : (ix9 i j 0).val = i.val := by
  unfold ix9; rw [unsqueeze]; show i.val + 1 * 0 = i.val; omega
theorem ix9_1 (i : Fin 9) (j : S64x512.Idx) : (ix9 i j 1).val = (j 0).val := by
  unfold ix9; rw [unsqueeze]; show 0 + 1 * (j 0).val = (j 0).val; omega
theorem ix9_2 (i : Fin 9) (j : S64x512.Idx) : (ix9 i j 2).val = (j 1).val := by
  unfold ix9; rw [unsqueeze]; show 0 + 1 * (j 1).val = (j 1).val; omega
theorem ix7_0 (i : Fin 7) (j : S64x512.Idx) : (ix7 i j 0).val = i.val := by
  unfold ix7; rw [unsqueeze]; show i.val + 1 * 0 = i.val; omega
theorem ix7_1 (i : Fin 7) (j : S64x512.Idx) : (ix7 i j 1).val = (j 0).val := by
  unfold ix7; rw [unsqueeze]; show 0 + 1 * (j 0).val = (j 0).val; omega
theorem ix7_2 (i : Fin 7) (j : S64x512.Idx) : (ix7 i j 2).val = (j 1).val := by
  unfold ix7; rw [unsqueeze]; show 0 + 1 * (j 1).val = (j 1).val; omega

/-- An element of a slot lies in the buffer at the slot's number; -/
theorem emb_slot9 {e : EltTy} (b : Memref sig .tc .vmem S9x64x512 e) (i : Fin 9) (j : S64x512.Idx) :
    (slot9 b i).view.emb j = b.view.emb (ix9 i j) := rfl
theorem emb_slot7 {e : EltTy} (b : Memref sig .tc .vmem S7x64x512 e) (i : Fin 7) (j : S64x512.Idx) :
    (slot7 b i).view.emb j = b.view.emb (ix7 i j) := rfl

/-- Every index of the buffer of nine is an element of one of its slots. -/
theorem exists_ix9 (y : S9x64x512.Idx) : ∃ i j, ix9 i j = y := by
  refine ⟨y 0, Shape.pair (d := ![64, 512]) (y 1) (y 2), funext fun a => Fin.ext ?_⟩
  fin_cases a
  · exact ix9_0 _ _
  · exact ix9_1 _ _
  · exact ix9_2 _ _
theorem exists_ix7 (y : S7x64x512.Idx) : ∃ i j, ix7 i j = y := by
  refine ⟨y 0, Shape.pair (d := ![64, 512]) (y 1) (y 2), funext fun a => Fin.ext ?_⟩
  fin_cases a
  · exact ix7_0 _ _
  · exact ix7_1 _ _
  · exact ix7_2 _ _

theorem set_slot9 {e : EltTy} (b : Memref sig .tc .vmem S9x64x512 e) (i : Fin 9) : (slot9 b i).view.set = (b.access (rect9 i)).set :=
  View.set_reshape (v := b.view.slice (rect9 i)) _
theorem set_slot7 {e : EltTy} (b : Memref sig .tc .vmem S7x64x512 e) (i : Fin 7) : (slot7 b i).view.set = (b.access (rect7 i)).set :=
  View.set_reshape (v := b.view.slice (rect7 i)) _

/-- Two slots share no element; -/
theorem disj9 {e : EltTy} (b : Memref sig .tc .vmem S9x64x512 e) (i i' : Fin 9) (h : i ≠ i') :
    Disjoint (slot9 b i).view.set (slot9 b i').view.set := by
  rw [Finset.disjoint_left]
  intro y hy hy'
  obtain ⟨j, -, rfl⟩ := Finset.mem_map.mp hy
  obtain ⟨j', -, h'⟩ := Finset.mem_map.mp hy'
  have h0 := congrArg (fun z : S9x64x512.Idx => (z 0).val) (b.view.emb.injective (show b.view.emb (ix9 i' j') = b.view.emb (ix9 i j) from h'))
  simp only [ix9_0] at h0
  exact h (Fin.ext h0.symm)
theorem disj7 {e : EltTy} (b : Memref sig .tc .vmem S7x64x512 e) (i i' : Fin 7) (h : i ≠ i') :
    Disjoint (slot7 b i).view.set (slot7 b i').view.set := by
  rw [Finset.disjoint_left]
  intro y hy hy'
  obtain ⟨j, -, rfl⟩ := Finset.mem_map.mp hy
  obtain ⟨j', -, h'⟩ := Finset.mem_map.mp hy'
  have h0 := congrArg (fun z : S7x64x512.Idx => (z 0).val) (b.view.emb.injective (show b.view.emb (ix7 i' j') = b.view.emb (ix7 i j) from h'))
  simp only [ix7_0] at h0
  exact h (Fin.ext h0.symm)

/-- the slots are the buffer; -/
theorem cover9 {e : EltTy} (b : Memref sig .tc .vmem S9x64x512 e) : Finset.univ.biUnion (fun i => (slot9 b i).view.set) = b.view.set := by
  ext y
  simp only [Finset.mem_biUnion, Finset.mem_univ, true_and]
  constructor
  · rintro ⟨i, hy⟩
    obtain ⟨j, -, rfl⟩ := Finset.mem_map.mp hy
    exact View.emb_mem_set _ _
  · intro hy
    obtain ⟨z, -, rfl⟩ := Finset.mem_map.mp hy
    obtain ⟨i, j, rfl⟩ := exists_ix9 z
    exact ⟨i, View.emb_mem_set (slot9 b i).view j⟩
/-- and likewise of seven. -/
theorem cover7 {e : EltTy} (b : Memref sig .tc .vmem S7x64x512 e) : Finset.univ.biUnion (fun i => (slot7 b i).view.set) = b.view.set := by
  ext y
  simp only [Finset.mem_biUnion, Finset.mem_univ, true_and]
  constructor
  · rintro ⟨i, hy⟩
    obtain ⟨j, -, rfl⟩ := Finset.mem_map.mp hy
    exact View.emb_mem_set _ _
  · intro hy
    obtain ⟨z, -, rfl⟩ := Finset.mem_map.mp hy
    obtain ⟨i, j, rfl⟩ := exists_ix7 z
    exact ⟨i, View.emb_mem_set (slot7 b i).view j⟩

/-! ## Where a window's elements lie -/

/-- The elements of a rectangle of a matrix are those within its rows and its columns. -/
theorem mem_rect {d : Fin 2 → ℕ} (off size : Fin 2 → ℕ) (h : ∀ a, off a + size a ≤ d a) (y : (⟨2, d⟩ : Shape).Idx) :
    y ∈ (Rect.unit (s := ⟨2, d⟩) off size h).set ↔
      (off 0 ≤ (y 0).val ∧ (y 0).val < off 0 + size 0) ∧ (off 1 ≤ (y 1).val ∧ (y 1).val < off 1 + size 1) := by
  rw [Rect.mem_set_unit]
  exact Fin.forall_fin_two (p := fun a => off a ≤ (y a).val ∧ (y a).val < off a + size a)

/-- The pieces of the result: the device's own rows, the nine received across the first axis, the seven across the second. -/
abbrev OutIx : Type := Unit ⊕ (Fin 9 ⊕ Fin 7)

/-- The elements of a piece of the result. -/
def oset (c : Dev nD) : OutIx → Finset S2048x512.Idx
  | .inl _ => (oloc c).view.set
  | .inr (.inl i) => (orx c i).view.set
  | .inr (.inr i) => (ory c i).view.set

/-- The first row of a piece of the result, and its number of rows. -/
def olo (c : Dev nD) : OutIx → ℕ
  | .inl _ => c.val / 2 * 1024
  | .inr (.inl i) => (1 - c.val / 2) * 1024 + (if i.val < 7 then c.val % 2 * 448 + 64 * i.val else 448 + 64 * i.val)
  | .inr (.inr i) => (1 - c.val / 2) * 1024 + (1 - c.val % 2) * 448 + 64 * i.val
def olen : OutIx → ℕ
  | .inl _ => 1024
  | .inr _ => 64

/-- An element is in a piece if its row is in the piece's rows. -/
theorem mem_oset (c : Dev nD) (p : OutIx) (y : S2048x512.Idx) : y ∈ oset c p ↔ olo c p ≤ (y 0).val ∧ (y 0).val < olo c p + olen p := by
  have h1 : (y 1).val < 512 := (y 1).isLt
  rcases p with _ | i | i
  · rw [show oset c (.inl ()) = _ from View.set_slice_whole main_v1 _, mem_rect (d := ![2048, 512]) _ _ (k0_off4_inb c), (off4_val c).1, (off4_val c).2]
    exact ⟨fun h => h.1, fun h => ⟨h, Nat.zero_le _, by show _ < 0 + 512; omega⟩⟩
  · rw [show oset c (.inr (.inl i)) = _ from View.set_slice_whole main_v1 _, mem_rect (d := ![2048, 512]) _ _ (ooffX_inb c i), (ooffX_val c i).1, (ooffX_val c i).2]
    exact ⟨fun h => h.1, fun h => ⟨h, Nat.zero_le _, by show _ < 0 + 512; omega⟩⟩
  · rw [show oset c (.inr (.inr i)) = _ from View.set_slice_whole main_v1 _, mem_rect (d := ![2048, 512]) _ _ (ooffY_inb c i), (ooffY_val c i).1, (ooffY_val c i).2]
    exact ⟨fun h => h.1, fun h => ⟨h, Nat.zero_le _, by show _ < 0 + 512; omega⟩⟩

/-- The pieces of the result share no element, -/
theorem disjO (c : Dev nD) (p p' : OutIx) (h : p ≠ p') : Disjoint (oset c p) (oset c p') := by
  rw [Finset.disjoint_left]
  intro y hy hy'
  rw [mem_oset] at hy hy'
  have hc : c.val < 4 := c.isLt
  have hx : c.val / 2 = 0 ∨ c.val / 2 = 1 := by omega
  have hz : c.val % 2 = 0 ∨ c.val % 2 = 1 := by omega
  apply h
  rcases p with ⟨⟩ | i | i <;> rcases p' with ⟨⟩ | i' | i' <;> simp only [olo, olen] at hy hy' <;> first | rfl | skip
  all_goals try have hi := i.isLt
  all_goals try have hi' := i'.isLt
  all_goals try split at hy
  all_goals try split at hy'
  all_goals first
    | exact congrArg (fun z => Sum.inr (Sum.inl z)) (Fin.ext (by rcases hx with e | e <;> rcases hz with e' | e' <;> simp only [e, e'] at hy hy' <;> omega))
    | exact congrArg (fun z => Sum.inr (Sum.inr z)) (Fin.ext (by rcases hx with e | e <;> rcases hz with e' | e' <;> simp only [e, e'] at hy hy' <;> omega))
    | exact absurd hy (by rcases hx with e | e <;> rcases hz with e' | e' <;> simp only [e, e'] at hy hy' ⊢ <;> omega)

/-- and are the result. -/
theorem coverO (c : Dev nD) : Finset.univ.biUnion (oset c) = Finset.univ := by
  ext y
  simp only [Finset.mem_biUnion, Finset.mem_univ, true_and, iff_true, mem_oset]
  have hc : c.val < 4 := c.isLt
  have hy : (y 0).val < 2048 := (y 0).isLt
  have hx : c.val / 2 = 0 ∨ c.val / 2 = 1 := by omega
  have hz : c.val % 2 = 0 ∨ c.val % 2 = 1 := by omega
  by_cases h1 : (y 0).val / 1024 = c.val / 2
  · exact ⟨.inl (), by simp only [olo, olen]; omega⟩
  · by_cases h2 : 896 ≤ (y 0).val % 1024
    · refine ⟨.inr (.inl ⟨((y 0).val % 1024 - 448) / 64, by omega⟩), ?_⟩
      simp only [olo, olen]; rw [if_neg (by omega)]; rcases hx with e | e <;> rw [e] at h1 ⊢ <;> omega
    · by_cases h3 : (y 0).val % 1024 / 448 = c.val % 2
      · refine ⟨.inr (.inl ⟨(y 0).val % 1024 % 448 / 64, by omega⟩), ?_⟩
        simp only [olo, olen]; rw [if_pos (by omega)]; rcases hx with e | e <;> rw [e] at h1 ⊢ <;> omega
      · refine ⟨.inr (.inr ⟨(y 0).val % 1024 % 448 / 64, by omega⟩), ?_⟩
        simp only [olo, olen]; rcases hx with e | e <;> rcases hz with e' | e' <;> rw [e, e'] <;> rw [e] at h1 <;> rw [e'] at h3 <;> omega

/-- The pieces of the argument that are read: the columns kept, and the nine pieces sent. -/
abbrev InIx : Type := Unit ⊕ Fin 9

def iset (c : Dev nD) : InIx → Finset S1024x1024.Idx
  | .inl _ => (xloc c).view.set
  | .inr i => (xin c i).view.set

/-- The windows of the argument share no element. -/
theorem disjI (c : Dev nD) (p p' : InIx) (h : p ≠ p') : Disjoint (iset c p) (iset c p') := by
  have hm : ∀ (q : InIx) (y : S1024x1024.Idx), y ∈ iset c q → (match q with
      | .inl _ => c.val / 2 * 512 ≤ (y 1).val ∧ (y 1).val < c.val / 2 * 512 + 512
      | .inr i => (if i.val < 7 then c.val % 2 * 448 + 64 * i.val else 448 + 64 * i.val) ≤ (y 0).val
          ∧ (y 0).val < (if i.val < 7 then c.val % 2 * 448 + 64 * i.val else 448 + 64 * i.val) + 64
          ∧ (1 - c.val / 2) * 512 ≤ (y 1).val ∧ (y 1).val < (1 - c.val / 2) * 512 + 512) := by
    rintro (_ | i) y hy
    · rw [show iset c (.inl ()) = _ from View.set_slice_whole main_arg0 _, mem_rect (d := ![1024, 1024]) _ _ (k0_off5_inb c), (off5_val c).1, (off5_val c).2] at hy
      exact hy.2
    · rw [show iset c (.inr i) = _ from View.set_slice_whole main_arg0 _, mem_rect (d := ![1024, 1024]) _ _ (xoff_inb c i), (xoff_val c i).1, (xoff_val c i).2] at hy
      exact ⟨hy.1.1, hy.1.2, hy.2⟩
  rw [Finset.disjoint_left]
  intro y hy hy'
  replace hy := hm p y hy
  replace hy' := hm p' y hy'
  have hc : c.val < 4 := c.isLt
  apply h
  rcases p with ⟨⟩ | i <;> rcases p' with ⟨⟩ | i' <;> simp only at hy hy' <;> first | rfl | skip
  · exact absurd hy' (by omega)
  · exact absurd hy' (by omega)
  · refine congrArg Sum.inr (Fin.ext ?_)
    have hi := i.isLt
    have hi' := i'.isLt
    split at hy <;> split at hy' <;> omega

end Cert.Reshard

end
-- ==== Proof.Cells.lean ====
/-
The protocol: the semaphores as cells, what each buffer holds, what each cell hands over, what each device owes.
-/
module

public import proofs.«01_k».proof.Proof.Slots
public import Mathlib.Data.Sum.Basic

@[expose] public section

noncomputable section

namespace Cert.Reshard

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the launch's own copy and the protocol's, whose duties are named by `Bool` -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The semaphores -/

theorem inbS9 (i : Fin 9) : ∀ a, (![i.val] : Fin 1 → ℕ) a + S1.size a ≤ S9.size a := by revert i; decide
theorem inbS7 (i : Fin 7) : ∀ a, (![i.val] : Fin 1 → ℕ) a + S1.size a ≤ S7.size a := by revert i; decide

/-- Semaphore `i` of an array of nine, and of seven. -/
abbrev sem9 (b : DmaSems sig S9) (i : Fin 9) : DmaSem sig :=
  ((b.slice (Rect.unit (s := S9) ![i.val] S1.size (inbS9 i))).squeeze S_ squeezes_S1_S_).sem
abbrev sem7 (b : DmaSems sig S7) (i : Fin 7) : DmaSem sig :=
  ((b.slice (Rect.unit (s := S7) ![i.val] S1.size (inbS7 i))).squeeze S_ squeezes_S1_S_).sem
abbrev semLoc : DmaSem sig :=
  ((cc0_scratch7.slice (Rect.unit (s := S1) ![0] S1.size inb_S1_S1_0)).squeeze S_ squeezes_S1_S_).sem
abbrev barS : Sem sig := (SemArray.scalar (sig.barrier 0 rfl) : Sems sig S_).sem

/-- A device's cells: its barrier; the copies into the staging slots; the copy of its own rows; the sending and the
    receiving side of the transfers across the first axis, then across the second; the copies into the result of what
    came across the first axis, then across the second. -/
abbrev Cell : Type := Unit ⊕ (Fin 9 ⊕ (Unit ⊕ (Fin 9 ⊕ (Fin 9 ⊕ (Fin 7 ⊕ (Fin 7 ⊕ (Fin 9 ⊕ Fin 7)))))))

set_option synthInstance.maxSize 1024 in
instance : DecidableEq Cell := inferInstance
set_option synthInstance.maxSize 1024 in
instance : Fintype Cell := inferInstance

@[match_pattern] abbrev cBar : Cell := .inl ()
@[match_pattern] abbrev cIn (i : Fin 9) : Cell := .inr (.inl i)
@[match_pattern] abbrev cLoc : Cell := .inr (.inr (.inl ()))
@[match_pattern] abbrev cSx (i : Fin 9) : Cell := .inr (.inr (.inr (.inl i)))
@[match_pattern] abbrev cRx (i : Fin 9) : Cell := .inr (.inr (.inr (.inr (.inl i))))
@[match_pattern] abbrev cSy (i : Fin 7) : Cell := .inr (.inr (.inr (.inr (.inr (.inl i)))))
@[match_pattern] abbrev cRy (i : Fin 7) : Cell := .inr (.inr (.inr (.inr (.inr (.inr (.inl i))))))
@[match_pattern] abbrev cOx (i : Fin 9) : Cell := .inr (.inr (.inr (.inr (.inr (.inr (.inr (.inl i)))))))
@[match_pattern] abbrev cOy (i : Fin 7) : Cell := .inr (.inr (.inr (.inr (.inr (.inr (.inr (.inr i)))))))

/-- The semaphore of a cell. -/
def semOf : Cell → SemLoc sig
  | cBar => .reg barS
  | cIn i => .dma (sem9 cc0_scratch6 i)
  | cLoc => .dma semLoc
  | cSx i => .dma (sem9 cc0_scratch8 i)
  | cRx i => .dma (sem9 cc0_scratch9 i)
  | cSy i => .dma (sem7 cc0_scratch10 i)
  | cRy i => .dma (sem7 cc0_scratch11 i)
  | cOx i => .dma (sem9 cc0_scratch12 i)
  | cOy i => .dma (sem7 cc0_scratch13 i)

/-- The cell of a semaphore: the barrier's, or by its number among the transfer semaphores. -/
def cellAt : SemLoc sig → Cell
  | .reg _ => cBar
  | .dma k =>
    if h : k.val < 9 then cIn ⟨k.val, h⟩
    else if h1 : k.val < 10 then cLoc
    else if h2 : k.val < 19 then cSx ⟨k.val - 10, by omega⟩
    else if h3 : k.val < 28 then cRx ⟨k.val - 19, by omega⟩
    else if h4 : k.val < 35 then cSy ⟨k.val - 28, by omega⟩
    else if h5 : k.val < 42 then cRy ⟨k.val - 35, by omega⟩
    else if h6 : k.val < 51 then cOx ⟨k.val - 42, by omega⟩
    else cOy ⟨k.val - 51, by have : k.val < 58 := k.isLt; omega⟩

theorem cellAt_semOf (x : Cell) : cellAt (semOf x) = x := by
  rcases x with ⟨⟩ | i | ⟨⟩ | i | i | i | i | i | i
  · rfl
  · revert i; decide
  · rfl
  all_goals revert i; decide

/-- Different cells are different semaphores. -/
theorem semOf_inj {x y : Cell} (h : semOf x = semOf y) : x = y := by rw [← cellAt_semOf x, h, cellAt_semOf]

theorem semOf_cellAt (s : SemLoc sig) : semOf (cellAt s) = s := by
  cases s with
  | reg k => exact congrArg SemLoc.reg (Subsingleton.elim (α := Fin 1) _ _)
  | dma k => revert k; decide

/-- Cells and semaphores correspond. -/
def cellE : Cell ≃ SemLoc sig := ⟨semOf, cellAt, cellAt_semOf, semOf_cellAt⟩

/-- A cell of a device. -/
abbrev kc (c : Dev nD) (x : Cell) : GSem nD τ sig := ((c : Thread nD τ), semOf x)

/-- A cell of a device names the device and the cell. -/
theorem kc_inj {c d : Dev nD} {x y : Cell} (h : kc c x = kc d y) : c = d ∧ x = y :=
  ⟨by have := congrArg (fun g : GSem nD τ sig => g.1.1) h; exact this, semOf_inj (congrArg Prod.snd h)⟩

/-! ## What the buffers hold -/

/-- The argument of device `c` at launch. -/
def xA (c : Dev nD) : S1024x1024.Idx → Elt F .f32 := m ((c : Thread nD τ).loc main_arg0)

/-- The index at a row and a column. -/
def ix2 (r k : ℕ) : S1024x1024.Idx :=
  Shape.pair (d := ![1024, 1024]) ⟨r % 1024, Nat.mod_lt _ (by decide)⟩ ⟨k % 1024, Nat.mod_lt _ (by decide)⟩

/-- The staging slots hold the rows to send, at the partner's columns; -/
def stageF (c : Dev nD) : S9x64x512.Idx → Elt F .f32 := fun y =>
  xA m c (ix2 (xoff c (y 0) 0 + (y 1).val) (xoff c (y 0) 1 + (y 2).val))
/-- the sending slots hold them narrowed; -/
def sendF (c : Dev nD) : S9x64x512.Idx → Elt F .bf16 := fun y => FloatOps.truncf .bf16 (by decide) (stageF m c y)
/-- the receiving slots hold what the partner across the first axis sends; -/
def rxF (c : Dev nD) : S9x64x512.Idx → Elt F .bf16 := sendF m (xp c)
/-- the slots of the second axis hold what the partner across it received; -/
def ryF (c : Dev nD) : S7x64x512.Idx → Elt F .bf16 := fun y => rxF m (yp c) (ix9 ((y 0).castLE (by decide)) (Shape.pair (d := ![64, 512]) (y 1) (y 2)))
/-- and each is widened again. -/
def rxfF (c : Dev nD) : S9x64x512.Idx → Elt F .f32 := fun y => FloatOps.extf .f32 (by decide) (rxF m c y)
def ryfF (c : Dev nD) : S7x64x512.Idx → Elt F .f32 := fun y => FloatOps.extf .f32 (by decide) (ryF m c y)

/-- The device whose argument holds row `r` of the other half of the result of device `c` in the kernel's path. -/
def srcDev (c : Dev nD) (r : ℕ) : Dev nD := if r < 896 ∧ r / 448 ≠ c.val % 2 then xp (yp c) else xp c

/-- The result of device `c`: its own rows as they are, the other rows narrowed and widened. -/
def outF (c : Dev nD) : S2048x512.Idx → Elt F .f32 := fun y =>
  if (y 0).val / 1024 = c.val / 2 then xA m c (ix2 ((y 0).val % 1024) (c.val / 2 * 512 + (y 1).val))
  else FloatOps.extf .f32 (by decide) (FloatOps.truncf .bf16 (by decide)
    (xA m (srcDev c ((y 0).val % 1024)) (ix2 ((y 0).val % 1024) (c.val / 2 * 512 + (y 1).val))) : Elt F .bf16)

/-- A memory reference of device `c` held at a share, with contents. -/
def pts {sp : Space} {s : Shape} {e : EltTy} (v : Memref sig .tc sp s e) (c : Dev nD) (q : PosShare TreeShare)
    (f : Buf (Elt F) (v.view.loc (c : Thread nD τ))) : sProp 𝕄 :=
  v.view.loc (c : Thread nD τ) ↦[v.view.set]{q} f

omit [FloatOps F] in
instance pts_storable {sp : Space} {s : Shape} {e : EltTy} (v : Memref sig .tc sp s e) (c : Dev nD) (q) (f) :
    BI.Storable (upEmb : UEmb _ 𝕄) (pts (F := F) v c q f) := by unfold pts; infer_instance

/-! ## The schedule -/

/-- The credit of a narrow slot, of a wide one, and of the device's own rows. -/
def NB : ℕ := (slot9 rxM 0).view.dmaCredit
def NF : ℕ := (slot9 rxfM 0).view.dmaCredit
def NL : ℕ := (oloc 0).view.dmaCredit
theorem NB_pos : 0 < NB := View.dmaCredit_pos _ (Shape.numel_pos (by decide))
theorem NF_pos : 0 < NF := View.dmaCredit_pos _ (Shape.numel_pos (by decide))
theorem NL_pos : 0 < NL := View.dmaCredit_pos _ (Shape.numel_pos (by decide))

/-- Slot `i` of the seven, among the nine. -/
abbrev up (i : Fin 7) : Fin 9 := i.castLE (by decide)

/-- The units one payment puts on a cell. -/
def amt : Cell → ℕ
  | cBar => 1
  | cIn _ => NF
  | cLoc => NL
  | cSx _ => NB
  | cRx _ => NB
  | cSy _ => NB
  | cRy _ => NB
  | cOx _ => NF
  | cOy _ => NF

theorem amt_pos (x : Cell) : 0 < amt x := by
  rcases x with ⟨⟩ | i | ⟨⟩ | i | i | i | i | i | i
  · exact Nat.one_pos
  · exact NF_pos
  · exact NL_pos
  · exact NB_pos
  · exact NB_pos
  · exact NB_pos
  · exact NB_pos
  · exact NF_pos
  · exact NF_pos

/-- What a cell hands its waiter: the barrier the receiving buffers of the two partners, a transfer the memory it wrote
    and, locally, the memory it read. -/
def pay (c : Dev nD) : Cell → Bool → sProp 𝕄
  | cBar, false => iprop(∃ f, pts rxM (xp c) fullShare f)
  | cBar, true => iprop(∃ f, pts ryM (yp c) fullShare f)
  | cIn i, _ => iprop(pts (slot9 stageM i) c fullShare (stageF m c) ∗ pts (xin c i) c fullShare (xA m c))
  | cLoc, _ => iprop(pts (oloc c) c fullShare (outF m c) ∗ pts (xloc c) c fullShare (xA m c))
  | cSx i, _ => pts (slot9 sendM i) c fullShare (sendF m c)
  | cRx i, _ => pts (slot9 rxM i) c fullShare (rxF m c)
  | cSy i, _ => pts (slot9 rxM (up i)) c fullShare.left (rxF m c)
  | cRy i, _ => pts (slot7 ryM i) c fullShare (ryF m c)
  | cOx i, _ => iprop(pts (orx c i) c fullShare (outF m c) ∗ pts (slot9 rxfM i) c fullShare (rxfF m c))
  | cOy i, _ => iprop(pts (ory c i) c fullShare (outF m c) ∗ pts (slot7 ryfM i) c fullShare (ryfF m c))

instance pay_storable (c : Dev nD) (x : Cell) (d : Bool) : BI.Storable (upEmb : UEmb _ 𝕄) (pay m c x d) := by
  rcases x with ⟨⟩ | i | ⟨⟩ | i | i | i | i | i | i <;> cases d <;> (unfold pay; infer_instance)

/-- The payments a cell receives: two on the barrier, one on every other. -/
def dutiesOf (x : Cell) : Finset Bool := if x = cBar then Finset.univ else {false}

/-- One round on every cell. -/
def rd : Rounds.Schedule (GSem nD τ sig) Bool 𝕄 where
  duties g r := if r = 0 ∧ g.1.2 = .tc then dutiesOf (cellAt g.2) else ∅
  unitless _ := False
  amount g _ _ := amt (cellAt g.2)
  payload g _ d := pay m g.1.1 (cellAt g.2) d
  amount_pos g _ _ _ := amt_pos _

instance rd_payload_storable (g : GSem nD τ sig) (r : ℕ) (d : Bool) : BI.Storable (upEmb : UEmb _ 𝕄) ((rd (F := F) m).payload g r d) := by
  dsimp only [rd]; infer_instance

section Sched
variable (c : Dev nD) (x : Cell)

/-- The duties of a cell in its one round; -/
theorem duties_kc : (rd (F := F) m).duties (kc c x) 0 = dutiesOf x := by
  dsimp only [rd]; rw [if_pos ⟨rfl, rfl⟩]; exact congrArg dutiesOf (cellAt_semOf x)
/-- there are none later. -/
theorem duties_later (g : GSem nD τ sig) : ∀ r, 1 ≤ r → (rd (F := F) m).duties g r = ∅ :=
  fun r hr => by dsimp only [rd]; rw [if_neg fun h => by omega]
theorem false_mem : false ∈ dutiesOf x := by
  unfold dutiesOf; split
  · exact Finset.mem_univ _
  · exact Finset.mem_singleton_self _
/-- A duty's amount. -/
theorem amount_kc (d : Bool) : (rd (F := F) m).amount (kc c x) 0 d = amt x := congrArg amt (cellAt_semOf x)
theorem payload_kc (d : Bool) : (rd (F := F) m).payload (kc c x) 0 d = pay m c x d :=
  congrArg (fun y => pay m c y d) (cellAt_semOf x)

/-- The units a round brings: two on the barrier, one transfer's credit on every other cell. -/
theorem expect_bar : (rd (F := F) m).expect (kc c cBar) 0 = 2 := by
  unfold Schedule.expect Schedule.amountOf
  rw [duties_kc, Finset.sum_congr rfl fun d _ => amount_kc m c cBar d]
  rfl
/-- What a wait takes is all that its cell is paid. -/
theorem expect_kc (hx : x ≠ cBar) : (rd (F := F) m).expect (kc c x) 0 = amt x := by
  unfold Schedule.expect Schedule.amountOf
  rw [duties_kc, dutiesOf, if_neg hx, Finset.sum_singleton, amount_kc]

/-- What the wait for a whole round brings. -/
theorem rest_bar : bigSep ((rd (F := F) m).duties (kc c cBar) 0 \ ∅) (fun d => (rd (F := F) m).payload (kc c cBar) 0 d)
    = iprop(pay m c cBar false ∗ pay m c cBar true) := by
  rw [Finset.sdiff_empty, duties_kc, show dutiesOf cBar = Finset.univ from rfl,
    bigSep_univ_eq_bigSepL [false, true] (by decide) (by decide), bigSepL_cons_cons, bigSepL_singleton, payload_kc, payload_kc]
  rfl
theorem rest_kc (hx : x ≠ cBar) : bigSep ((rd (F := F) m).duties (kc c x) 0 \ ∅) (fun d => (rd (F := F) m).payload (kc c x) 0 d)
    = pay m c x false := by
  rw [Finset.sdiff_empty, duties_kc, dutiesOf, if_neg hx, bigSep_singleton, payload_kc]

end Sched

/-! ## What a device owes, and the order of the cells -/

/-- The payments still owed across the first axis from slot `n` on, -/
def OX (c : Dev nD) (n : ℕ) : CellTallies nD τ sig Unit := ∑ i : Fin 9, if n ≤ i.val then tallyAt (kc (xp c) (cRx i)) () NB else 0
/-- and across the second. -/
def OY (c : Dev nD) (n : ℕ) : CellTallies nD τ sig Unit := ∑ i : Fin 7, if n ≤ i.val then tallyAt (kc (yp c) (cRy i)) () NB else 0

theorem sum_step {n : ℕ} {M : Type} [AddCommMonoid M] (f : Fin n → M) (i : Fin n) :
    (∑ k : Fin n, if i.val ≤ k.val then f k else 0) = (∑ k : Fin n, if i.val + 1 ≤ k.val then f k else 0) + f i := by
  rw [← Finset.sum_erase_add _ _ (Finset.mem_univ i), if_pos le_rfl,
    ← Finset.sum_erase_add _ (fun k => if i.val + 1 ≤ k.val then f k else 0) (Finset.mem_univ i), if_neg (Nat.not_succ_le_self _), add_zero]
  congr 1
  refine Finset.sum_congr rfl fun k hk => ?_
  have hne : k.val ≠ i.val := fun h => Finset.ne_of_mem_erase hk (Fin.ext h)
  exact if_congr (by omega) rfl rfl

/-- Sending slot `i` pays its part; -/
theorem OX_step (c : Dev nD) (i : Fin 9) : OX c i.val = OX c (i.val + 1) + tallyAt (kc (xp c) (cRx i)) () NB :=
  sum_step (fun i => tallyAt (kc (xp c) (cRx i)) () NB) i
theorem OY_step (c : Dev nD) (i : Fin 7) : OY c i.val = OY c (i.val + 1) + tallyAt (kc (yp c) (cRy i)) () NB :=
  sum_step (fun i => tallyAt (kc (yp c) (cRy i)) () NB) i
/-- Nothing is owed across an axis once all its slots are sent. -/
theorem OX_end (c : Dev nD) : OX c 9 = 0 := Finset.sum_eq_zero fun i _ => if_neg (by have := i.isLt; omega)
theorem OY_end (c : Dev nD) : OY c 7 = 0 := Finset.sum_eq_zero fun i _ => if_neg (by have := i.isLt; omega)

/-- What a device owes after its first signal, -/
def O₁ (c : Dev nD) : CellTallies nD τ sig Unit := (OX c 0 + OY c 0) + tallyAt (kc (yp c) cBar) () 1
/-- and at launch. -/
def O₀ (c : Dev nD) : CellTallies nD τ sig Unit := O₁ c + tallyAt (kc (xp c) cBar) () 1

def L (g : GSem nD τ sig) : Finset Unit := if g.1.2 = .tc then {()} else ∅
/-- The barrier comes after the local cells, the first axis after it, and the slots of the second axis in order. -/
def rank : Cell → ℕ
  | cBar => 1
  | cRx _ => 2
  | cRy i => 3 + i.val
  | _ => 0
def lv (g : GSem nD τ sig) (_ : Unit) : ℕ := rank (cellAt g.2)

theorem L_of_ne (g : GSem nD τ sig) (h : g.1.2 ≠ .tc) : L g = ∅ := if_neg h
theorem L_tc (c : Dev nD) (sm : SemLoc sig) : L ((c : Thread nD τ), sm) = {()} := if_pos rfl
theorem lv_kc (c : Dev nD) (x : Cell) (u : Unit) : lv (kc c x) u = rank x := congrArg rank (cellAt_semOf x)

/-- The tallies whose cells all lie above `n`. -/
def Above (n : ℕ) (O : CellTallies nD τ sig Unit) : Prop := ∀ g u, 0 < O g u → g.1.2 = .tc ∧ n < lv g u

theorem Above.zero (n : ℕ) : Above n 0 := fun g u h => absurd h (Nat.lt_irrefl 0)
theorem Above.add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem Above.tally {n : ℕ} (c : Dev nD) (x : Cell) (k : ℕ) (h : n < rank x) : Above n (tallyAt (kc c x) () k) := fun g u hg => by
  rw [tallyAt_apply] at hg
  split at hg
  · next h' => rw [h'.1, lv_kc]; exact ⟨rfl, h⟩
  · exact absurd hg (Nat.lt_irrefl 0)
theorem Above.sum {n : ℕ} {ι : Type} (s : Finset ι) (O : ι → CellTallies nD τ sig Unit) (h : ∀ i ∈ s, Above n (O i)) : Above n (∑ i ∈ s, O i) := by
  classical
  induction s using Finset.induction_on with
  | empty => rw [Finset.sum_empty]; exact Above.zero n
  | insert a s ha ih =>
    rw [Finset.sum_insert ha]
    exact (h a (Finset.mem_insert_self _ _)).add (ih fun i hi => h i (Finset.mem_insert_of_mem hi))

theorem above_OX (c : Dev nD) (k : ℕ) {n : ℕ} (h : n < 2) : Above n (OX c k) := Above.sum _ _ fun i _ => by
  split
  · exact Above.tally _ _ _ h
  · exact Above.zero n
theorem above_OY (c : Dev nD) (k : ℕ) {n : ℕ} (h : n < 3 + k) : Above n (OY c k) := Above.sum _ _ fun i _ => by
  split
  · exact Above.tally _ _ _ (by show n < 3 + i.val; omega)
  · exact Above.zero n

/-- The barrier is waited for before anything else owed. -/
theorem above_O₀ (c : Dev nD) : Above 0 (O₀ c) :=
  (((above_OX c 0 (by decide)).add (above_OY c 0 (by omega))).add (Above.tally _ _ _ (by decide))).add (Above.tally _ _ _ (by decide))

omit [FloatOps F] in
/-- A device may wait on a cell when everything it owes lies above it. -/
theorem mayWait (c : Dev nD) (sm : SemLoc sig) (O : CellTallies nD τ sig Unit) (h : Above (rank (cellAt sm)) O) :
    (levAts L lv : sProp 𝕄) ⊢ MayWait (c : Thread nD τ) sm () O :=
  MayOwe.of_cut (L := L) (lev := lv) (rank (cellAt sm))
    (fun p hp => by rw [Finset.mem_singleton.mp hp, L_tc]; exact Finset.mem_singleton_self _)
    (fun g u hg => by rw [L, if_pos (h g u hg).1]; exact Finset.mem_singleton_self _)
    (fun p hp => by rw [Finset.mem_singleton.mp hp]; exact le_rfl)
    (fun g u hg => (h g u hg).2)

end Cert.Reshard

end
-- ==== Proof.Moves.lean ====
/-
What each move of the kernel does to the contents: every transfer and every store leaves in its destination what the
contents of `Cells` say, and whole buffers split into the pieces the moves name.
-/
module

public import proofs.«01_k».proof.Proof.Cells

@[expose] public section

noncomputable section

namespace Cert.Reshard

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

/-- Writing through a view what the contents `G` read there makes the view's elements hold `G`. -/
theorem write_agree {sp : Space} {s : Shape} {e : EltTy} (v : View sig .tc sp s e) (f G : v.ty.Contents (Elt F)) (w : s.Idx → Elt F e)
    (h : v.read (Elt F) G = w) : ∀ i ∈ v.set, v.write (Elt F) f w Finset.univ i = G i := by
  intro i hi
  obtain ⟨j, -, rfl⟩ := Finset.mem_map.mp hi
  rw [View.write_emb_of_mem _ _ (Finset.mem_univ j), ← h, View.read_apply, cast_cast, cast_eq]

theorem pts_write {sp : Space} {s : Shape} {e : EltTy} (v : Memref sig .tc sp s e) (c : Dev nD) (q : PosShare TreeShare)
    (f G : Buf (Elt F) (v.view.loc (c : Thread nD τ))) (w : s.Idx → Elt F e) (h : v.view.read (Elt F) G = w) :
    (v.view.loc (c : Thread nD τ) ↦[v.view.set]{q} v.view.write (Elt F) f w Finset.univ : sProp 𝕄) = pts v c q G :=
  pointsTo_congr (write_agree v.view f G w h)

/-! ## The transfers -/

theorem ix2_eq (y : S1024x1024.Idx) (r k : ℕ) (h0 : (y 0).val = r) (h1 : (y 1).val = k) : y = ix2 r k := by
  have b0 : (y 0).val < 1024 := (y 0).isLt
  have b1 : (y 1).val < 1024 := (y 1).isLt
  funext a
  refine Fin.ext ?_
  fin_cases a
  · show (y 0).val = r % 1024; omega
  · show (y 1).val = k % 1024; omega

theorem ix9_eq (y : S9x64x512.Idx) (i : Fin 9) (j : S64x512.Idx) (h0 : (y 0).val = i.val) (h1 : (y 1).val = (j 0).val)
    (h2 : (y 2).val = (j 1).val) : y = ix9 i j := by
  funext a
  refine Fin.ext ?_
  fin_cases a
  · exact h0.trans (ix9_0 i j).symm
  · exact h1.trans (ix9_1 i j).symm
  · exact h2.trans (ix9_2 i j).symm

/-- Element `j` of a rectangle of a matrix lies `j` past its corner. -/
theorem emb_rect {d : Fin 2 → ℕ} (off size : Fin 2 → ℕ) (h : ∀ a, off a + size a ≤ d a) (j : (⟨2, size⟩ : Shape).Idx) (a : Fin 2) :
    (((Rect.unit (s := ⟨2, d⟩) off size h).emb j) a).val = off a + (j a).val := by
  rw [Rect.emb_apply]; show off a + 1 * (j a).val = _; omega

theorem ix9_fst (i : Fin 9) (j : S64x512.Idx) : (ix9 i j 0 : Fin 9) = i := Fin.ext (ix9_0 i j)
theorem ix7_fst (i : Fin 7) (j : S64x512.Idx) : (ix7 i j 0 : Fin 7) = i := Fin.ext (ix7_0 i j)

/-- The staging slot receives the rows of the argument its transfer reads. -/
theorem read_in (c : Dev nD) (i : Fin 9) : (slot9 stageM i).view.read (Elt F) (stageF m c) = (xin c i).view.read (Elt F) (xA m c) := by
  funext j
  show stageF m c (ix9 i j) = xA m c ((Rect.unit (s := S1024x1024) (xoff c i) S64x512.size (xoff_inb c i)).emb j)
  unfold stageF
  refine congrArg (xA m c) ((ix2_eq _ _ _ ?_ ?_).symm)
  · exact (emb_rect (d := ![1024, 1024]) _ _ (xoff_inb c i) j 0).trans (by rw [ix9_1]; exact congrArg (fun k => xoff c k 0 + (j 0).val) (ix9_fst i j).symm)
  · exact (emb_rect (d := ![1024, 1024]) _ _ (xoff_inb c i) j 1).trans (by rw [ix9_2]; exact congrArg (fun k => xoff c k 1 + (j 1).val) (ix9_fst i j).symm)

/-- The device's own rows are copied as they are. -/
theorem read_loc (c : Dev nD) : (oloc c).view.read (Elt F) (outF m c) = (xloc c).view.read (Elt F) (xA m c) := by
  funext j
  show outF m c ((Rect.unit (s := S2048x512) (k0_off4 c) S1024x512.size (k0_off4_inb c)).emb j)
    = xA m c ((Rect.unit (s := S1024x1024) (k0_off5 c) S1024x512.size (k0_off5_inb c)).emb j)
  have e0 := emb_rect (d := ![2048, 512]) _ _ (k0_off4_inb c) j 0
  have e1 := emb_rect (d := ![2048, 512]) _ _ (k0_off4_inb c) j 1
  have f0 := emb_rect (d := ![1024, 1024]) _ _ (k0_off5_inb c) j 0
  have f1 := emb_rect (d := ![1024, 1024]) _ _ (k0_off5_inb c) j 1
  rw [(off4_val c).1] at e0
  rw [(off4_val c).2] at e1
  rw [(off5_val c).1] at f0
  rw [(off5_val c).2] at f1
  have hj : (j 0).val < 1024 := (j 0).isLt
  unfold outF
  rw [if_pos (by rw [e0]; omega)]
  refine congrArg (xA m c) ((ix2_eq _ _ _ ?_ ?_).symm)
  · rw [f0, e0]; omega
  · rw [f1, e1]; omega

/-- The partner's receiving slot gets the sending slot. -/
theorem read_rx (c : Dev nD) (i : Fin 9) : (slot9 rxM i).view.read (Elt F) (rxF m (xp c)) = (slot9 sendM i).view.read (Elt F) (sendF m c) := by
  unfold rxF; rw [xp_xp]; rfl

/-- The partner's slot of the second axis gets the slot received across the first. -/
theorem read_ry (c : Dev nD) (i : Fin 7) : (slot7 ryM i).view.read (Elt F) (ryF m (yp c)) = (slot9 rxM (up i)).view.read (Elt F) (rxF m c) := by
  funext j
  show ryF m (yp c) (ix7 i j) = rxF m c (ix9 (up i) j)
  unfold ryF
  rw [yp_yp]
  refine congrArg (rxF m c) (ix9_eq _ _ _ ?_ ?_ ?_)
  · rw [ix9_0]; exact ix7_0 i j
  · rw [ix9_1]; exact ix7_1 i j
  · rw [ix9_2]; exact ix7_2 i j

/-- The rows of the result that a widened slot received across the first axis fills. -/
theorem read_ox (c : Dev nD) (i : Fin 9) : (orx c i).view.read (Elt F) (outF m c) = (slot9 rxfM i).view.read (Elt F) (rxfF m c) := by
  funext j
  show outF m c ((Rect.unit (s := S2048x512) (ooffX c i) S64x512.size (ooffX_inb c i)).emb j) = rxfF m c (ix9 i j)
  have e0 := emb_rect (d := ![2048, 512]) _ _ (ooffX_inb c i) j 0
  have e1 := emb_rect (d := ![2048, 512]) _ _ (ooffX_inb c i) j 1
  rw [(ooffX_val c i).1] at e0
  rw [(ooffX_val c i).2] at e1
  have hj : (j 0).val < 64 := (j 0).isLt
  have hc : c.val < 4 := c.isLt
  have hi : i.val < 9 := i.isLt
  have hp : (xp c).val = (c.val + 2) % 4 := rfl
  have hx : c.val / 2 = 0 ∨ c.val / 2 = 1 := by omega
  have hz : c.val % 2 = 0 ∨ c.val % 2 = 1 := by omega
  have hr : (if i.val < 7 then c.val % 2 * 448 + 64 * i.val else 448 + 64 * i.val) + 64 ≤ 1024 := by split <;> omega
  unfold outF rxfF rxF sendF stageF
  rw [if_neg (by rw [e0]; omega), ix9_1, ix9_2, show xoff (xp c) (ix9 i j 0) = xoff (xp c) i from congrArg (xoff (xp c)) (ix9_fst i j)]
  have hs : srcDev c ((((Rect.unit (s := S2048x512) (ooffX c i) S64x512.size (ooffX_inb c i)).emb j) 0).val % 1024) = xp c := by
    unfold srcDev
    rw [if_neg]
    rw [e0]
    clear e0 e1 hr hp
    split <;> rcases hx with e | e <;> rcases hz with e' | e' <;> rw [e, e'] <;> omega
  rw [hs, (xoff_val (xp c) i).1, (xoff_val (xp c) i).2, e0, e1, hp]
  congr 4
  · rw [show (c.val + 2) % 4 % 2 = c.val % 2 by omega]
    omega
  · omega

/-- The rows of the result that a widened slot received across the second axis fills. -/
theorem read_oy (c : Dev nD) (i : Fin 7) : (ory c i).view.read (Elt F) (outF m c) = (slot7 ryfM i).view.read (Elt F) (ryfF m c) := by
  funext j
  show outF m c ((Rect.unit (s := S2048x512) (ooffY c i) S64x512.size (ooffY_inb c i)).emb j) = ryfF m c (ix7 i j)
  have e0 := emb_rect (d := ![2048, 512]) _ _ (ooffY_inb c i) j 0
  have e1 := emb_rect (d := ![2048, 512]) _ _ (ooffY_inb c i) j 1
  rw [(ooffY_val c i).1] at e0
  rw [(ooffY_val c i).2] at e1
  have hj : (j 0).val < 64 := (j 0).isLt
  have hc : c.val < 4 := c.isLt
  have hi : i.val < 7 := i.isLt
  have hp : (xp (yp c)).val = (c.val / 2 * 2 + (1 - c.val % 2) + 2) % 4 := rfl
  have hx : c.val / 2 = 0 ∨ c.val / 2 = 1 := by omega
  have hz : c.val % 2 = 0 ∨ c.val % 2 = 1 := by omega
  unfold outF ryfF ryF rxF sendF stageF
  rw [ix9_1, ix9_2, show xoff (xp (yp c)) (ix9 (Fin.castLE (by decide) (ix7 i j 0)) (Shape.pair (d := ![64, 512]) (ix7 i j 1) (ix7 i j 2)) 0) = xoff (xp (yp c)) (up i)
    from congrArg (xoff (xp (yp c))) ((ix9_fst _ _).trans (congrArg up (ix7_fst i j)))]
  rw [if_neg (by rw [e0]; rcases hx with e | e <;> rcases hz with e' | e' <;> rw [e, e'] <;> omega)]
  have hs : srcDev c ((((Rect.unit (s := S2048x512) (ooffY c i) S64x512.size (ooffY_inb c i)).emb j) 0).val % 1024) = xp (yp c) := by
    unfold srcDev
    rw [if_pos]
    rw [e0]
    rcases hx with e | e <;> rcases hz with e' | e' <;> rw [e, e'] <;> omega
  rw [hs, (xoff_val (xp (yp c)) (up i)).1, (xoff_val (xp (yp c)) (up i)).2, e0, e1, hp, if_pos (show (up i).val < 7 from hi)]
  have h1 : (Shape.pair (d := ![64, 512]) (ix7 i j 1) (ix7 i j 2) 0).val = (j 0).val := ix7_1 i j
  have h2 : (Shape.pair (d := ![64, 512]) (ix7 i j 1) (ix7 i j 2) 1).val = (j 1).val := ix7_2 i j
  rw [h1, h2]
  have h3 : (up i).val = i.val := rfl
  rw [h3]
  congr 4
  · rcases hx with e | e <;> rcases hz with e' | e' <;> rw [e, e'] <;> omega
  · rcases hx with e | e <;> rcases hz with e' | e' <;> rw [e, e'] <;> omega

/-! ## The loads and stores -/

/-- A slot narrowed, as the kernel computes it, -/
def narrow (v : Vec F S1x64x512 .f32) : FVec F S1x64x512 .bf16 :=
  shapeCast S1x64x512 (truncf .bf16 (shapeCast S64x512 v shapeCasts_S1x64x512_S64x512) bitsLt_bf16_f32) shapeCasts_S64x512_S1x64x512
/-- and a slot widened. -/
def widen (v : Vec F S1x64x512 .bf16) : FVec F S1x64x512 .f32 :=
  shapeCast S1x64x512 (extf .f32 (shapeCast S64x512 v shapeCasts_S1x64x512_S64x512) bitsLt_bf16_f32) shapeCasts_S64x512_S1x64x512

theorem narrow_apply (v : Vec F S1x64x512 .f32) (y : S1x64x512.Idx) : narrow v y = FloatOps.truncf .bf16 (by decide) (v y) := by
  show FloatOps.truncf .bf16 _ (v (Shape.reshapeEquiv _ (Shape.reshapeEquiv _ y))) = _
  rw [Shape.reshapeEquiv_reshapeEquiv, Shape.reshapeEquiv_self]
theorem widen_apply (v : Vec F S1x64x512 .bf16) (y : S1x64x512.Idx) : widen v y = FloatOps.extf .f32 (by decide) (v y) := by
  show FloatOps.extf .f32 _ (v (Shape.reshapeEquiv _ (Shape.reshapeEquiv _ y))) = _
  rw [Shape.reshapeEquiv_reshapeEquiv, Shape.reshapeEquiv_self]

theorem read_narrow (c : Dev nD) (i : Fin 9) :
    (sendM.access (rect9 i)).read (Elt F) (sendF m c) = narrow ((stageM.access (rect9 i)).read (Elt F) (stageF m c)) := by
  funext y; rw [narrow_apply]; rfl
theorem read_widen9 (c : Dev nD) (i : Fin 9) :
    (rxfM.access (rect9 i)).read (Elt F) (rxfF m c) = widen ((rxM.access (rect9 i)).read (Elt F) (rxF m c)) := by
  funext y; rw [widen_apply]; rfl
theorem read_widen7 (c : Dev nD) (i : Fin 7) :
    (ryfM.access (rect7 i)).read (Elt F) (ryfF m c) = widen ((ryM.access (rect7 i)).read (Elt F) (ryF m c)) := by
  funext y; rw [widen_apply]; rfl

/-! ## Whole buffers and their pieces -/

/-- A buffer of nine slots is its slots; -/
theorem pts_slots9 {e : EltTy} (b : Memref sig .tc .vmem S9x64x512 e) (c : Dev nD) (q : PosShare TreeShare)
    (f : Buf (Elt F) (b.view.loc (c : Thread nD τ))) :
    (pts b c q f : sProp 𝕄) = bigSep Finset.univ fun i => pts (slot9 b i) c q f := by
  unfold pts
  rw [← cover9 b]
  exact pointsTo_biUnion _ _ fun i _ i' _ h => disj9 b i i' h
/-- and likewise one of seven. -/
theorem pts_slots7 {e : EltTy} (b : Memref sig .tc .vmem S7x64x512 e) (c : Dev nD) (q : PosShare TreeShare)
    (f : Buf (Elt F) (b.view.loc (c : Thread nD τ))) :
    (pts b c q f : sProp 𝕄) = bigSep Finset.univ fun i => pts (slot7 b i) c q f := by
  unfold pts
  rw [← cover7 b]
  exact pointsTo_biUnion _ _ fun i _ i' _ h => disj7 b i i' h

/-- The result in its pieces. -/
theorem pts_out (c : Dev nD) (f : S2048x512.Idx → Elt F .f32) :
    ((c : Thread nD τ).loc main_v1 ↦{fullShare} f : sProp 𝕄)
      = iprop(pts (oloc c) c fullShare f ∗ (bigSep Finset.univ fun i => pts (orx c i) c fullShare f) ∗ bigSep Finset.univ fun i => pts (ory c i) c fullShare f) := by
  have h : ((c : Thread nD τ).loc main_v1 ↦{fullShare} f : sProp 𝕄)
      = bigSep Finset.univ fun p : OutIx => ((c : Thread nD τ).loc main_v1 ↦[oset c p]{fullShare} f : sProp 𝕄) := by
    rw [← pointsTo_biUnion _ _ fun p _ p' _ h => disjO c p p' h]
    exact congrArg (fun S => ((c : Thread nD τ).loc main_v1 ↦[S]{fullShare} f : sProp 𝕄)) (coverO c).symm
  rw [h, bigSep_univ_sum, bigSep_univ_sum, Finset.univ_unique, bigSep_singleton]
  rfl

/-- The argument in the pieces that are read, and the rest. -/
theorem pts_in (c : Dev nD) (f : S1024x1024.Idx → Elt F .f32) :
    ((c : Thread nD τ).loc main_arg0 ↦{fullShare} f : sProp 𝕄)
      ⊣⊢ iprop((pts (xloc c) c fullShare f ∗ bigSep Finset.univ fun i => pts (xin c i) c fullShare f)
          ∗ ((c : Thread nD τ).loc main_arg0 ↦[Finset.univ \ Finset.univ.biUnion (iset c)]{fullShare} f : sProp 𝕄)) := by
  have h : ((c : Thread nD τ).loc main_arg0 ↦[Finset.univ.biUnion (iset c)]{fullShare} f : sProp 𝕄)
      = iprop(pts (xloc c) c fullShare f ∗ bigSep Finset.univ fun i => pts (xin c i) c fullShare f) := by
    rw [pointsTo_biUnion _ _ fun p _ p' _ h => disjI c p p' h, bigSep_univ_sum, Finset.univ_unique, bigSep_singleton]
    rfl
  rw [← h]
  exact pointsTo_split_subset (Finset.subset_univ _)

end Cert.Reshard

end
-- ==== Proof.Steps.lean ====
/-
The steps of the kernel: each piece of its code at one slot — start a copy, wait for a cell, narrow or widen a slot, send a
slot — and what it makes of the slot's state.
-/
module

public import proofs.«01_k».proof.Proof.Moves

@[expose] public section

noncomputable section

namespace Cert.Reshard

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- Device `c` runs `p` to a state where `Q` holds. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## Slots done and to do -/

/-- The first `n` of the slots at `Q`, the others at `P`. -/
def prog {N : ℕ} (P Q : Fin N → sProp 𝕄) (n : ℕ) : sProp 𝕄 := bigSep Finset.univ fun i => if i.val < n then Q i else P i

omit [FloatOps F] in
theorem prog_zero {N : ℕ} (P Q : Fin N → sProp 𝕄) : prog P Q 0 = bigSep Finset.univ P :=
  bigSep_congr fun i _ => if_neg (Nat.not_lt_zero _)
omit [FloatOps F] in
theorem prog_end {N : ℕ} (P Q : Fin N → sProp 𝕄) (n : ℕ) (h : N ≤ n) : prog P Q n = bigSep Finset.univ Q :=
  bigSep_congr fun i _ => if_pos (lt_of_lt_of_le i.isLt h)
omit [FloatOps F] in
/-- Slot `i` is the next to do. -/
theorem prog_step {N : ℕ} (P Q : Fin N → sProp 𝕄) (i : Fin N) : prog P Q i.val ⊢ iprop(P i ∗ (Q i -∗ prog P Q (i.val + 1))) := by
  unfold prog
  rw [bigSep_erase (Finset.mem_univ i), bigSep_erase (Finset.mem_univ i) (Φ := fun k : Fin N => if k.val < i.val + 1 then Q k else P k),
    if_neg (Nat.lt_irrefl _), if_pos (Nat.lt_succ_self _)]
  rw [bigSep_congr (Ψ := fun k : Fin N => if k.val < i.val + 1 then Q k else P k) fun k hk => by
    have hne : k.val ≠ i.val := fun h => Finset.ne_of_mem_erase hk (Fin.ext h)
    exact if_congr (by omega) rfl rfl]
  show iprop(P i ∗ _) ⊢ iprop(P i ∗ (Q i -∗ (Q i ∗ _)))
  iintro ⟨HP, HR⟩
  isplitl [HP]; · iexact HP
  iintro HQ
  isplitl [HQ] <;> iassumption

/-! ## Cells -/

variable (K : Dev nD × Cell → ℕ)

/-- What every device may use again and again: the cells' invariants, their rounds begun, the order of the cells. -/
def recs : sProp 𝕄 :=
  iprop((bigSep Finset.univ fun p : Dev nD × Cell => cellInv ER (rd m) (K p) (kc p.1 p.2))
    ∗ (bigSep Finset.univ fun p : Dev nD × Cell => reached ER (kc p.1 p.2) 0) ∗ levAts L lv)

instance recs_persistent : BI.Persistent (recs m K) := by unfold recs; infer_instance

/-- The records hold the invariant of any cell, -/
theorem recs_inv (c : Dev nD) (x : Cell) : recs m K ⊢ cellInv ER (rd m) (K (c, x)) (kc c x) := by
  have h : (bigSep Finset.univ fun p : Dev nD × Cell => cellInv ER (rd m) (K p) (kc p.1 p.2)) ⊢ (cellInv ER (rd m) (K (c, x)) (kc c x) : sProp 𝕄) :=
    bigSep_elim (Φ := fun p : Dev nD × Cell => cellInv ER (rd m) (K p) (kc p.1 p.2)) (Finset.mem_univ (c, x))
  unfold recs
  iintro ⟨#H, -⟩
  iapply h
  iexact H
/-- that it is at its first round, -/
theorem recs_reached (c : Dev nD) (x : Cell) : recs m K ⊢ reached ER (kc c x) 0 := by
  have h : (bigSep Finset.univ fun p : Dev nD × Cell => reached ER (kc p.1 p.2) 0) ⊢ (reached ER (kc c x) 0 : sProp 𝕄) :=
    bigSep_elim (Φ := fun p : Dev nD × Cell => reached ER (kc p.1 p.2) 0) (Finset.mem_univ (c, x))
  unfold recs
  iintro ⟨-, #H, -⟩
  iapply h
  iexact H
/-- and the order of the waits. -/
theorem recs_lev : recs m K ⊢ levAts L lv := by
  unfold recs
  iintro ⟨-, -, #H⟩
  iexact H

/-- A cell before its transfer, -/
def Fresh (c : Dev nD) (x : Cell) : sProp 𝕄 := iprop(atPos ER (kc c x) 0 ∅ 0 ∗ dutyTok ER (kc c x) 0 false)
/-- while its transfer is under way, -/
def Busy (c : Dev nD) (x : Cell) : sProp 𝕄 := iprop(atPos ER (kc c x) 0 ∅ 0 ∗ cred (tallyAt (kc c x) () (amt x)))
/-- and after the wait. -/
def Done (c : Dev nD) (x : Cell) : sProp 𝕄 := semVal (kc c x) 0

/-- What a device owes, whatever it has waited for. -/
def Ow (c : Dev nD) (O : CellTallies nD τ sig Unit) : sProp 𝕄 := iprop(∃ W, owes (c : Thread nD τ) O W)

/-- A slot, or a window, with any contents. -/
def Any {sp : Space} {s : Shape} {e : EltTy} (v : Memref sig .tc sp s e) (c : Dev nD) : sProp 𝕄 := iprop(∃ f, pts v c fullShare f)

section Rules

/-- A local copy: the cell is under way, and hands the copy over when waited for. -/
theorem wp_move (c : Dev nD) (x : Cell) {sp sp' : Space} {s : Shape} {e : EltTy} {src : Memref sig .tc sp s e} {dst : Memref sig .tc sp' s e}
    {sem : DmaSem sig} {hsrc : src.view.WordExact} {hdst : dst.view.WordExact} {hsem : DmaTarget.Typed (nD := nD) sp (.dma sem) (.here dst : DmaTarget nD τ sig .tc sp' s e)}
    {α : Type} {Q : α → sProp 𝕄} {k : PUnit → Prog (TpuEff nD τ sig (Elt F) Λ₀ .tc) α}
    (hs : semOf x = .dma sem) (hN : dst.view.amount (.dma sem) = amt x) (q : PosShare TreeShare)
    (fs : Buf (Elt F) (src.view.loc (c : Thread nD τ))) (fd G : Buf (Elt F) (dst.view.loc (c : Thread nD τ)))
    (hG : dst.view.read (Elt F) G = src.view.read (Elt F) fs)
    (hpay : iprop(pts dst c fullShare G ∗ pts src c q fs) ⊢ pay m c x false) :
    iprop(recs m K ∗ Fresh c x ∗ pts src c q fs ∗ pts dst c fullShare fd)
      ⊢ iprop((Busy c x -∗ WP c (k ⟨⟩) Q) -∗ WP c (.op (.enqueueDma src (.here dst) (.dma sem) hsrc hdst hsem) k) Q) := by
  have hk : ((c : Thread nD τ), SemLoc.dma sem) = kc c x := by rw [kc, hs]
  unfold Fresh Busy pts
  iintro ⟨#Hr, ⟨Hat, Htok⟩, Hsrc, Hdst⟩ Hk
  iapply (Rounds.wp_copy_pointsTo 𝒱₀ ER (rd m) (c : Thread nD τ) none (κ := K (c, x)) (r := 0) (d := false) (q := q) (fs := fs) (fd := fd)
    (by rw [hk, duties_kc]; exact false_mem x) () (amt x) hN (by rw [hk, amount_kc])
    (by rw [hk, payload_kc, pts_write dst c fullShare fd G _ hG]; exact hpay)) $$ [Htok Hsrc Hdst]
  · rw [hk]
    isplitr; · iapply (recs_inv m K c x); iexact Hr
    isplitl [Hsrc]; · iexact Hsrc
    isplitl [Hdst]; · iexact Hdst
    isplitl [Htok]; · iexact Htok
    iapply (recs_reached m K c x); iexact Hr
  rw [hk]
  iintro Hc
  iapply Hk
  isplitl [Hat] <;> iassumption

/-- A transfer to device `t`: its sending cell is under way, and the receiving cell's payment is off what the device owes. -/
theorem wp_push (c t : Dev nD) (x x' : Cell) {s : Shape} {e : EltTy} {src dst : Memref sig .tc .vmem s e}
    {sS sem : DmaSem sig} {hsc : (dst : Memref sig (Dev.tc t : Thread nD τ).2.kind .vmem s e).view.ref.isScScratch = false}
    {hsrc : src.view.WordExact} {hdst : dst.view.WordExact}
    {hsem : DmaTarget.Typed .vmem (.dma sem) (.remote (Dev.tc t : Thread nD τ) dst (.dma sS) hsc)}
    {α : Type} {Q : α → sProp 𝕄} {k : PUnit → Prog (TpuEff nD τ sig (Elt F) Λ₀ .tc) α}
    (hs : semOf x = .dma sS) (hs' : semOf x' = .dma sem) (hN : dst.view.amount (.dma sem) = amt x) (hN' : amt x' = amt x) (q : PosShare TreeShare)
    (fs : Buf (Elt F) (src.view.loc (c : Thread nD τ))) (fd G : Buf (Elt F) (dst.view.loc (t : Thread nD τ)))
    (hG : dst.view.read (Elt F) G = src.view.read (Elt F) fs)
    (hpay : pts src c q fs ⊢ pay m c x false) (hpay' : pts dst t fullShare G ⊢ pay m t x' false)
    {O O' : CellTallies nD τ sig Unit} (hO : O = O' + tallyAt (kc t x') () (amt x)) :
    iprop(recs m K ∗ Fresh c x ∗ dutyTok ER (kc t x') 0 false ∗ pts src c q fs ∗ pts dst t fullShare fd ∗ Ow c O)
      ⊢ iprop(((Busy c x ∗ Ow c O') -∗ WP c (k ⟨⟩) Q)
        -∗ WP c (.op (.enqueueDma src (.remote (Dev.tc t : Thread nD τ) dst (.dma sS) hsc) (.dma sem) hsrc hdst hsem) k) Q) := by
  have hk : ((c : Thread nD τ), SemLoc.dma sS) = kc c x := by rw [kc, hs]
  have hk' : ((t : Thread nD τ), SemLoc.dma sem) = kc t x' := by rw [kc, hs']
  unfold Fresh Busy Ow pts
  iintro ⟨#Hr, ⟨Hat, Htok⟩, Htok', Hsrc, Hdst, ⟨%W, HO⟩⟩ Hk
  iapply (Rounds.wp_send_pointsTo 𝒱₀ ER (rd m) (c : Thread nD τ) none (κ₁ := K (c, x)) (κ₂ := K (t, x')) (r₁ := 0) (r₂ := 0)
    (d₁ := false) (d₂ := false) (q := q) (fs := fs) (fd := fd)
    (by rw [hk, duties_kc]; exact false_mem x) (by rw [hk', duties_kc]; exact false_mem x')
    () () (amt x) hN (by rw [hk, amount_kc]) (by rw [hk', amount_kc, hN']) (O₀ := O) O' (by rw [hk']; exact hO) (W := W)
    (by rw [hk, payload_kc]; exact hpay)
    (by rw [hk', payload_kc, pts_write dst t fullShare fd G _ hG]; exact hpay')) $$ [Htok Htok' Hsrc Hdst HO]
  · rw [hk, hk']
    isplitr; · iapply (recs_inv m K c x); iexact Hr
    isplitr; · iapply (recs_inv m K t x'); iexact Hr
    isplitl [Hsrc]; · iexact Hsrc
    isplitl [Hdst]; · iexact Hdst
    isplitl [HO]; · iexact HO
    isplitl [Htok]; · iexact Htok
    isplitr; · iapply (recs_reached m K c x); iexact Hr
    isplitl [Htok']; · iexact Htok'
    iapply (recs_reached m K t x'); iexact Hr
  rw [hk]
  iintro ⟨Hc, HO⟩
  iapply Hk
  isplitl [Hat Hc]
  · isplitl [Hat] <;> iassumption
  iexists W; iexact HO

/-- The wait for a transfer: the cell is done, and what it hands over is the device's. -/
theorem wp_await (c : Dev nD) (x : Cell) (hx : x ≠ cBar) {s : Shape} {e : EltTy} {sp sp' : Space} {src : Memref sig .tc sp s e} {dst : Memref sig .tc sp' s e}
    {sem : DmaSem sig} {hsrc : src.view.WordExact} {hdst : dst.view.WordExact}
    {α : Type} {Q : α → sProp 𝕄} {k : PUnit → Prog (TpuEff nD τ sig (Elt F) Λ₀ .tc) α}
    (hs : semOf x = .dma sem) (hN : dst.view.dmaCredit = amt x) (O : CellTallies nD τ sig Unit) (hO : Above (rank x) O) :
    iprop(recs m K ∗ Busy c x ∗ Ow c O)
      ⊢ iprop(((Done c x ∗ pay m c x false ∗ Ow c O) -∗ WP c (k ⟨⟩) Q)
        -∗ WP c (.op (.waitDma2 sem src dst hsrc hdst) k) Q) := by
  have hk : ((c : Thread nD τ), SemLoc.dma sem) = kc c x := by rw [kc, hs]
  unfold Busy Ow
  iintro ⟨#Hr, ⟨Hat, Hc⟩, ⟨%W, HO⟩⟩ Hk
  iapply (Rounds.wp_wait_rest_token 𝒱₀ ER (rd m) (c : Thread nD τ) none (κ := K (c, x))
      (wpE_waitDma2_eq 𝒱₀ (c : Thread nD τ) none Set.univ) (Set.mem_univ _) () (O := O) (W := W) (R := 0) (m := 0) (T := ∅)
      (by rw [Nat.zero_add, hk, expect_kc m c x hx]; exact hN)) $$ [Hat Hc HO]
  · rw [hk, hN]
    isplitr; · iapply (recs_inv m K c x); iexact Hr
    isplitl [Hc]; · iexact Hc
    isplitl [HO]; · iexact HO
    isplitr
    · iapply (mayWait c (.dma sem) O (by rw [← hs, cellAt_semOf]; exact hO)); iapply (recs_lev m K); iexact Hr
    iexact Hat
  rw [hk]
  iintro ⟨HO, Hat, -, Hpay⟩
  ihave Hpay := (Entails.of_eq (rest_kc m c x hx)) $$ Hpay
  imod (Rounds.cell_close ER (rd m) (Set.mem_univ (K (c, x))) (fun h => h) (R := 0 + 1) (duties_later m (kc c x))) $$ [Hat] with Hz
  · isplitr; · iapply (recs_inv m K c x); iexact Hr
    iexact Hat
  iapply Hk
  unfold Done
  isplitl [Hz]; · iexact Hz
  isplitl [Hpay]; · iexact Hpay
  iexists _; iexact HO

end Rules

end Cert.Reshard

end
-- ==== Proof.Blocks.lean ====
/-
The blocks of the kernel, one lemma each, for any slot: the copies into staging, the narrowing and sending of a slot, the
receiving of a slot across either axis, and the final waits.
-/
module

public import proofs.«01_k».proof.Proof.Steps

@[expose] public section

noncomputable section

namespace Cert.Reshard

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Narrowing and widening a slot -/

/-- Slot `i` of the staging buffer goes narrowed into slot `i` of the sending buffer. -/
theorem wp_narrow (c : Dev nD) (i : Fin 9) {h₁ : stageM.view.LoadsAt (rect9 i).toLoadRect} {h₂ : sendM.view.LoadsAt (rect9 i).toLoadRect}
    {hx : (sendM.access (rect9 i)).Stores Finset.univ} {hm : (Finset.univ : Finset (rect9 i).shape.Idx) = Finset.univ ∨ ∀ a, (rect9 i).stride a = 1}
    {α : Type} {Q : α → sProp 𝕄} {k : PUnit → Prog (TpuEff nD τ sig (Elt F) Λ₀ .tc) α} :
    iprop(pts (slot9 stageM i) c fullShare (stageF m c) ∗ Any (slot9 sendM i) c)
      ⊢ iprop(((pts (slot9 stageM i) c fullShare (stageF m c) ∗ pts (slot9 sendM i) c fullShare (sendF m c)) -∗ WP c (k ⟨⟩) Q)
        -∗ WP c (.op (.load stageM (rect9 i).toLoadRect h₁) fun v => .op (.load sendM (rect9 i).toLoadRect h₂) fun _ =>
            .op (.store sendM (rect9 i) (narrow v) Finset.univ hx hm) k) Q) := by
  have hS := set_slot9 stageM i
  have hD := set_slot9 sendM i
  have hw : ∀ f, ((sendM.access (rect9 i)).loc (c : Thread nD τ) ↦[(sendM.access (rect9 i)).set]{fullShare}
      (sendM.access (rect9 i)).write (Elt F) f (narrow ((stageM.access (rect9 i)).read (Elt F) (stageF m c))) Finset.univ : sProp 𝕄)
      = ((sendM.access (rect9 i)).loc (c : Thread nD τ) ↦[(sendM.access (rect9 i)).set]{fullShare} sendF m c) :=
    fun f => pointsTo_congr (write_agree _ f (sendF m c) _ (read_narrow m c i))
  unfold Any pts
  rw [hS, hD]
  iintro ⟨HS, ⟨%f, HD⟩⟩ Hk
  iapply (wp_load_rect 𝒱₀ (c : Thread nD τ) none Set.univ (m := stageM) (r := rect9 i) subset_rfl) $$ HS; iintro HS
  iapply (wp_load_rect 𝒱₀ (c : Thread nD τ) none Set.univ (m := sendM) (r := rect9 i) subset_rfl) $$ HD; iintro HD
  iapply (wp_store 𝒱₀ (c : Thread nD τ) none Set.univ (m := sendM) (r := rect9 i) (Mk := Finset.univ) (S := (sendM.access (rect9 i)).set) subset_rfl) $$ HD; iintro HD
  ihave HD := (Entails.of_eq (hw f)) $$ HD
  iapply Hk
  isplitl [HS] <;> iassumption

/-- A received slot, held at any share, goes widened into its slot of nine. -/
theorem wp_widen9 (c : Dev nD) (i : Fin 9) (q : PosShare TreeShare) {h₁ : rxM.view.LoadsAt (rect9 i).toLoadRect} {h₂ : rxfM.view.LoadsAt (rect9 i).toLoadRect}
    {hx : (rxfM.access (rect9 i)).Stores Finset.univ} {hm : (Finset.univ : Finset (rect9 i).shape.Idx) = Finset.univ ∨ ∀ a, (rect9 i).stride a = 1}
    {α : Type} {Q : α → sProp 𝕄} {k : PUnit → Prog (TpuEff nD τ sig (Elt F) Λ₀ .tc) α} :
    iprop(pts (slot9 rxM i) c q (rxF m c) ∗ Any (slot9 rxfM i) c)
      ⊢ iprop(((pts (slot9 rxM i) c q (rxF m c) ∗ pts (slot9 rxfM i) c fullShare (rxfF m c)) -∗ WP c (k ⟨⟩) Q)
        -∗ WP c (.op (.load rxM (rect9 i).toLoadRect h₁) fun v => .op (.load rxfM (rect9 i).toLoadRect h₂) fun _ =>
            .op (.store rxfM (rect9 i) (widen v) Finset.univ hx hm) k) Q) := by
  have hS := set_slot9 rxM i
  have hD := set_slot9 rxfM i
  have hw : ∀ f, ((rxfM.access (rect9 i)).loc (c : Thread nD τ) ↦[(rxfM.access (rect9 i)).set]{fullShare}
      (rxfM.access (rect9 i)).write (Elt F) f (widen ((rxM.access (rect9 i)).read (Elt F) (rxF m c))) Finset.univ : sProp 𝕄)
      = ((rxfM.access (rect9 i)).loc (c : Thread nD τ) ↦[(rxfM.access (rect9 i)).set]{fullShare} rxfF m c) :=
    fun f => pointsTo_congr (write_agree _ f (rxfF m c) _ (read_widen9 m c i))
  unfold Any pts
  rw [hS, hD]
  iintro ⟨HS, ⟨%f, HD⟩⟩ Hk
  iapply (wp_load_rect 𝒱₀ (c : Thread nD τ) none Set.univ (m := rxM) (r := rect9 i) subset_rfl) $$ HS; iintro HS
  iapply (wp_load_rect 𝒱₀ (c : Thread nD τ) none Set.univ (m := rxfM) (r := rect9 i) subset_rfl) $$ HD; iintro HD
  iapply (wp_store 𝒱₀ (c : Thread nD τ) none Set.univ (m := rxfM) (r := rect9 i) (Mk := Finset.univ) (S := (rxfM.access (rect9 i)).set) subset_rfl) $$ HD; iintro HD
  ihave HD := (Entails.of_eq (hw f)) $$ HD
  iapply Hk
  isplitl [HS] <;> iassumption

/-- A slot received across the second axis goes widened into its slot of seven. -/
theorem wp_widen7 (c : Dev nD) (i : Fin 7) {h₁ : ryM.view.LoadsAt (rect7 i).toLoadRect} {h₂ : ryfM.view.LoadsAt (rect7 i).toLoadRect}
    {hx : (ryfM.access (rect7 i)).Stores Finset.univ} {hm : (Finset.univ : Finset (rect7 i).shape.Idx) = Finset.univ ∨ ∀ a, (rect7 i).stride a = 1}
    {α : Type} {Q : α → sProp 𝕄} {k : PUnit → Prog (TpuEff nD τ sig (Elt F) Λ₀ .tc) α} :
    iprop(pts (slot7 ryM i) c fullShare (ryF m c) ∗ Any (slot7 ryfM i) c)
      ⊢ iprop(((pts (slot7 ryM i) c fullShare (ryF m c) ∗ pts (slot7 ryfM i) c fullShare (ryfF m c)) -∗ WP c (k ⟨⟩) Q)
        -∗ WP c (.op (.load ryM (rect7 i).toLoadRect h₁) fun v => .op (.load ryfM (rect7 i).toLoadRect h₂) fun _ =>
            .op (.store ryfM (rect7 i) (widen v) Finset.univ hx hm) k) Q) := by
  have hS := set_slot7 ryM i
  have hD := set_slot7 ryfM i
  have hw : ∀ f, ((ryfM.access (rect7 i)).loc (c : Thread nD τ) ↦[(ryfM.access (rect7 i)).set]{fullShare}
      (ryfM.access (rect7 i)).write (Elt F) f (widen ((ryM.access (rect7 i)).read (Elt F) (ryF m c))) Finset.univ : sProp 𝕄)
      = ((ryfM.access (rect7 i)).loc (c : Thread nD τ) ↦[(ryfM.access (rect7 i)).set]{fullShare} ryfF m c) :=
    fun f => pointsTo_congr (write_agree _ f (ryfF m c) _ (read_widen7 m c i))
  unfold Any pts
  rw [hS, hD]
  iintro ⟨HS, ⟨%f, HD⟩⟩ Hk
  iapply (wp_load_rect 𝒱₀ (c : Thread nD τ) none Set.univ (m := ryM) (r := rect7 i) subset_rfl) $$ HS; iintro HS
  iapply (wp_load_rect 𝒱₀ (c : Thread nD τ) none Set.univ (m := ryfM) (r := rect7 i) subset_rfl) $$ HD; iintro HD
  iapply (wp_store 𝒱₀ (c : Thread nD τ) none Set.univ (m := ryfM) (r := rect7 i) (Mk := Finset.univ) (S := (ryfM.access (rect7 i)).set) subset_rfl) $$ HD; iintro HD
  ihave HD := (Entails.of_eq (hw f)) $$ HD
  iapply Hk
  isplitl [HS] <;> iassumption

/-! ## The state of a slot -/

/-- Before and after the start of the copy into staging slot `i`. -/
def A0 (c : Dev nD) (i : Fin 9) : sProp 𝕄 := iprop(Fresh c (cIn i) ∗ pts (xin c i) c fullShare (xA m c) ∗ Any (slot9 stageM i) c)
def A1 (c : Dev nD) (i : Fin 9) : sProp 𝕄 := Busy c (cIn i)

/-- Before and after slot `i` is sent across the first axis. -/
def B0 (c : Dev nD) (i : Fin 9) : sProp 𝕄 :=
  iprop(Any (slot9 sendM i) c ∗ Fresh c (cSx i) ∗ dutyTok ER (kc (xp c) (cRx i)) 0 false ∗ Any (slot9 rxM i) (xp c))
def B1 (c : Dev nD) (i : Fin 9) : sProp 𝕄 :=
  iprop(Busy c (cSx i) ∗ Done c (cIn i) ∗ pts (slot9 stageM i) c fullShare (stageF m c) ∗ pts (xin c i) c fullShare (xA m c))

/-- The share of a received slot kept while it is passed on: the first seven are. -/
def shr (i : Fin 9) : PosShare TreeShare := if i.val < 7 then fullShare.right else fullShare

/-- Before and after slot `i` is received across the first axis, widened, and its copy into the result begun. -/
def C0 (c : Dev nD) (i : Fin 9) : sProp 𝕄 := iprop(Busy c (cRx i) ∗ Any (slot9 rxfM i) c ∗ Fresh c (cOx i) ∗ Any (orx c i) c)
def C1 (c : Dev nD) (i : Fin 9) : sProp 𝕄 := iprop(Done c (cRx i) ∗ pts (slot9 rxM i) c (shr i) (rxF m c) ∗ Busy c (cOx i))

/-- Before and after slot `i` is passed on across the second axis. -/
def Y0 (c : Dev nD) (i : Fin 7) : sProp 𝕄 := iprop(Fresh c (cSy i) ∗ dutyTok ER (kc (yp c) (cRy i)) 0 false ∗ Any (slot7 ryM i) (yp c))
def Y1 (c : Dev nD) (i : Fin 7) : sProp 𝕄 := Busy c (cSy i)

/-- Before and after slot `i` is received across the second axis, widened, and its copy into the result begun. -/
def D0 (c : Dev nD) (i : Fin 7) : sProp 𝕄 := iprop(Busy c (cRy i) ∗ Any (slot7 ryfM i) c ∗ Fresh c (cOy i) ∗ Any (ory c i) c)
def D1 (c : Dev nD) (i : Fin 7) : sProp 𝕄 := iprop(Done c (cRy i) ∗ pts (slot7 ryM i) c fullShare (ryF m c) ∗ Busy c (cOy i))

/-- After the final waits for slot `i` of the first axis, and of the second. -/
def X2 (c : Dev nD) (i : Fin 9) : sProp 𝕄 :=
  iprop((Done c (cSx i) ∗ pts (slot9 sendM i) c fullShare (sendF m c)) ∗ Done c (cOx i) ∗ pts (orx c i) c fullShare (outF m c) ∗ pts (slot9 rxfM i) c fullShare (rxfF m c))
def Y2 (c : Dev nD) (i : Fin 7) : sProp 𝕄 :=
  iprop((Done c (cSy i) ∗ pts (slot9 rxM (up i)) c fullShare.left (rxF m c)) ∗ Done c (cOy i) ∗ pts (ory c i) c fullShare (outF m c) ∗ pts (slot7 ryfM i) c fullShare (ryfF m c))

variable (K : Dev nD × Cell → ℕ)

/-- The kernel's state between two steps of each of its phases: `n` slots done. -/
def SA (c : Dev nD) (n : ℕ) : sProp 𝕄 := iprop(recs m K ∗ prog (A0 m c) (A1 c) n)
def SB (c : Dev nD) (n : ℕ) : sProp 𝕄 := iprop(recs m K ∗ Ow c (OX c n + OY c 0) ∗ prog (fun i => iprop(A1 c i ∗ B0 c i)) (B1 m c) n)
def SC (c : Dev nD) (n d : ℕ) : sProp 𝕄 :=
  iprop(recs m K ∗ Ow c (OY c n) ∗ prog (C0 c) (C1 m c) n ∗ prog (Y0 c) (Y1 c) n ∗ prog (D0 c) (D1 m c) d)
def SX (c : Dev nD) (n : ℕ) : sProp 𝕄 := iprop(recs m K ∗ Ow c 0 ∗ prog (fun i => iprop(Busy c (cSx i) ∗ Busy c (cOx i))) (X2 m c) n)
def SY (c : Dev nD) (n : ℕ) : sProp 𝕄 := iprop(recs m K ∗ Ow c 0 ∗ prog (fun i => iprop(Busy c (cSy i) ∗ Busy c (cOy i))) (Y2 m c) n)

section Blocks

variable (c : Dev nD)

theorem pay_move {sp sp' : Space} {s s' : Shape} {e e' : EltTy} (v : Memref sig .tc sp s e) (w : Memref sig .tc sp' s' e')
    (f : Buf (Elt F) (v.view.loc (c : Thread nD τ))) (g : Buf (Elt F) (w.view.loc (c : Thread nD τ))) (x : Cell)
    (h : pay m c x false = iprop(pts v c fullShare f ∗ pts w c fullShare g)) :
    iprop(pts v c fullShare f ∗ pts w c fullShare g) ⊢ pay m c x false := Entails.of_eq h.symm

/-! The credits of the transfers. -/

theorem credit_stage (i : Fin 9) : (slot9 stageM i).view.dmaCredit = NF := rfl
theorem credit_rx (i : Fin 9) : (slot9 rxM i).view.dmaCredit = NB := rfl
theorem credit_send (i : Fin 9) : (slot9 sendM i).view.dmaCredit = NB := rfl
theorem credit_ry (i : Fin 7) : (slot7 ryM i).view.dmaCredit = NB := rfl
theorem credit_loc : (oloc c).view.dmaCredit = NL := rfl
theorem credit_orx (i : Fin 9) : (orx c i).view.dmaCredit = NF := rfl
theorem credit_ory (i : Fin 7) : (ory c i).view.dmaCredit = NF := rfl

/-- The copy of the rows of the argument into staging slot `i` begins. -/
theorem wp_in (i : Fin 9) {hsrc : (xin c i).view.WordExact} {hdst : (slot9 stageM i).view.WordExact}
    {hsem : DmaTarget.Typed (nD := nD) (.hbm : Space) (.dma (sem9 cc0_scratch6 i)) (.here (slot9 stageM i) : DmaTarget nD τ sig .tc .vmem S64x512 .f32)}
    {α : Type} {Q : α → sProp 𝕄} {k : PUnit → Prog (TpuEff nD τ sig (Elt F) Λ₀ .tc) α} :
    SA m K c i.val ⊢ iprop((SA m K c (i.val + 1) -∗ WP c (k ⟨⟩) Q)
      -∗ WP c (.op (.enqueueDma (xin c i) (.here (slot9 stageM i)) (.dma (sem9 cc0_scratch6 i)) hsrc hdst hsem) k) Q) := by
  unfold SA
  iintro ⟨#Hr, HP⟩ Hk
  ihave HP := (prog_step (A0 m c) (A1 c) i) $$ HP
  unfold A0 A1 Any
  icases HP with ⟨⟨HF, Hx, ⟨%f, Hs⟩⟩, Hback⟩
  iapply (wp_move m K c (cIn i) (src := xin c i) (dst := slot9 stageM i) rfl (credit_stage i) fullShare (xA m c) f (stageF m c) (read_in m c i) (pay_move m c (slot9 stageM i) (xin c i) (stageF m c) (xA m c) (cIn i) rfl)) $$ [HF Hx Hs]
  · isplitr; · iexact Hr
    isplitl [HF]; · iexact HF
    isplitl [Hx] <;> iassumption
  iintro HB
  iapply Hk
  isplitr; · iexact Hr
  iapply Hback; iexact HB

/-- What the copy of the device's own rows needs, and its cell under way. -/
def Loc0 : sProp 𝕄 := iprop(Fresh c cLoc ∗ pts (xloc c) c fullShare (xA m c) ∗ Any (oloc c) c)
def Loc2 : sProp 𝕄 := iprop(Done c cLoc ∗ pts (oloc c) c fullShare (outF m c) ∗ pts (xloc c) c fullShare (xA m c))

/-- The copy of the device's own rows begins. -/
theorem wp_own {hsrc : (xloc c).view.WordExact} {hdst : (oloc c).view.WordExact}
    {hsem : DmaTarget.Typed (nD := nD) (.hbm : Space) (.dma semLoc) (.here (oloc c) : DmaTarget nD τ sig .tc .hbm S1024x512 .f32)}
    {α : Type} {Q : α → sProp 𝕄} {k : PUnit → Prog (TpuEff nD τ sig (Elt F) Λ₀ .tc) α} :
    iprop(recs m K ∗ Loc0 m c) ⊢ iprop((Busy c cLoc -∗ WP c (k ⟨⟩) Q)
      -∗ WP c (.op (.enqueueDma (xloc c) (.here (oloc c)) (.dma semLoc) hsrc hdst hsem) k) Q) := by
  unfold Loc0 Any
  iintro ⟨#Hr, HF, Hx, ⟨%f, Hs⟩⟩ Hk
  iapply (wp_move m K c cLoc (src := xloc c) (dst := oloc c) rfl (credit_loc c) fullShare (xA m c) f (outF m c) (read_loc m c)
    (pay_move m c (oloc c) (xloc c) (outF m c) (xA m c) cLoc rfl)) $$ [HF Hx Hs]
  · isplitr; · iexact Hr
    isplitl [HF]; · iexact HF
    isplitl [Hx] <;> iassumption
  iexact Hk

/-- Slot `i` is waited for, narrowed, and sent across the first axis. -/
theorem wp_sendX (i : Fin 9) (n : Dev nD) (hn : n = xp c)
    {w₁ : (xin c i).view.WordExact} {w₂ : (slot9 stageM i).view.WordExact}
    {h₁ : stageM.view.LoadsAt (rect9 i).toLoadRect} {h₂ : sendM.view.LoadsAt (rect9 i).toLoadRect}
    {hx : (sendM.access (rect9 i)).Stores Finset.univ} {hm : (Finset.univ : Finset (rect9 i).shape.Idx) = Finset.univ ∨ ∀ a, (rect9 i).stride a = 1}
    {hsc : (slot9 rxM i : Memref sig (Dev.tc n : Thread nD τ).2.kind .vmem S64x512 .bf16).view.ref.isScScratch = false}
    {w₃ : (slot9 sendM i).view.WordExact} {w₄ : (slot9 rxM i).view.WordExact}
    {hsem : DmaTarget.Typed .vmem (.dma (sem9 cc0_scratch9 i)) (.remote (Dev.tc n : Thread nD τ) (slot9 rxM i) (.dma (sem9 cc0_scratch8 i)) hsc)}
    {α : Type} {Q : α → sProp 𝕄} {k : PUnit → Prog (TpuEff nD τ sig (Elt F) Λ₀ .tc) α} :
    SB m K c i.val ⊢ iprop((SB m K c (i.val + 1) -∗ WP c (k ⟨⟩) Q)
      -∗ WP c (.op (.waitDma2 (sem9 cc0_scratch6 i) (xin c i) (slot9 stageM i) w₁ w₂) fun _ =>
          .op (.load stageM (rect9 i).toLoadRect h₁) fun v => .op (.load sendM (rect9 i).toLoadRect h₂) fun _ =>
          .op (.store sendM (rect9 i) (narrow v) Finset.univ hx hm) fun _ =>
          .op (.enqueueDma (slot9 sendM i) (.remote (Dev.tc n : Thread nD τ) (slot9 rxM i) (.dma (sem9 cc0_scratch8 i)) hsc) (.dma (sem9 cc0_scratch9 i)) w₃ w₄ hsem) k) Q) := by
  subst hn
  unfold SB
  iintro ⟨#Hr, HO, HP⟩ Hk
  ihave HP := (prog_step (fun i => iprop(A1 c i ∗ B0 c i)) (B1 m c) i) $$ HP
  unfold A1 B0 B1
  icases HP with ⟨⟨HB, Hsend, HF, Htok, Hrx⟩, Hback⟩
  iapply (wp_await m K c (cIn i) (fun h => nomatch h) (src := xin c i) (dst := slot9 stageM i) rfl (credit_stage i) (OX c i.val + OY c 0)
    ((above_OX c _ (Nat.zero_lt_two)).add (above_OY c 0 (Nat.succ_pos 2)))) $$ [HB HO]
  · isplitr; · iexact Hr
    isplitl [HB] <;> iassumption
  iintro ⟨Hd, Hpay, HO⟩
  ihave Hpay := (Entails.of_eq (show pay m c (cIn i) false = iprop(pts (slot9 stageM i) c fullShare (stageF m c) ∗ pts (xin c i) c fullShare (xA m c)) from rfl)) $$ Hpay
  icases Hpay with ⟨Hst, Hx⟩
  iapply (wp_narrow m c i) $$ [Hst Hsend]
  · isplitl [Hst] <;> iassumption
  iintro ⟨Hst, Hsend⟩
  unfold Any
  icases Hrx with ⟨%fd, Hrx⟩
  iapply (wp_push m K c (xp c) (cSx i) (cRx i) (src := slot9 sendM i) (dst := slot9 rxM i) rfl rfl (credit_rx i) rfl fullShare (sendF m c) fd (rxF m (xp c))
    (read_rx m c i) (Entails.of_eq rfl) (Entails.of_eq rfl) (O := OX c i.val + OY c 0) (O' := OX c (i.val + 1) + OY c 0)
    (by rw [OX_step, add_right_comm]; rfl)) $$ [HF Htok Hsend Hrx HO]
  · isplitr; · iexact Hr
    isplitl [HF]; · iexact HF
    isplitl [Htok]; · iexact Htok
    isplitl [Hsend]; · iexact Hsend
    isplitl [Hrx] <;> iassumption
  iintro ⟨HB, HO⟩
  iapply Hk
  isplitr; · iexact Hr
  isplitl [HO]; · iexact HO
  iapply Hback
  isplitl [HB]; · iexact HB
  isplitl [Hd]; · iexact Hd
  isplitl [Hst] <;> iassumption

/-- A slot that is passed on is kept in half. -/
theorem shr_up (i : Fin 7) : shr (up i) = fullShare.right := if_pos i.isLt

/-- Slot `i`, one of the first seven, is received across the first axis, passed on across the second, widened, and its copy
    into the result begins. -/
theorem wp_recvX (i : Fin 7) (d : ℕ) (n : Dev nD) (hn : n = yp c)
    {w₁ : (slot9 sendM (up i)).view.WordExact} {w₂ w₃ : (slot9 rxM (up i)).view.WordExact} {w₄ : (slot7 ryM i).view.WordExact}
    {hsc : (slot7 ryM i : Memref sig (Dev.tc n : Thread nD τ).2.kind .vmem S64x512 .bf16).view.ref.isScScratch = false}
    {hsem : DmaTarget.Typed .vmem (.dma (sem7 cc0_scratch11 i)) (.remote (Dev.tc n : Thread nD τ) (slot7 ryM i) (.dma (sem7 cc0_scratch10 i)) hsc)}
    {h₁ : rxM.view.LoadsAt (rect9 (up i)).toLoadRect} {h₂ : rxfM.view.LoadsAt (rect9 (up i)).toLoadRect}
    {hx : (rxfM.access (rect9 (up i))).Stores Finset.univ} {hm : (Finset.univ : Finset (rect9 (up i)).shape.Idx) = Finset.univ ∨ ∀ a, (rect9 (up i)).stride a = 1}
    {w₅ : (slot9 rxfM (up i)).view.WordExact} {w₆ : (orx c (up i)).view.WordExact}
    {hsem' : DmaTarget.Typed (nD := nD) (.vmem : Space) (.dma (sem9 cc0_scratch12 (up i))) (.here (orx c (up i)) : DmaTarget nD τ sig .tc .hbm S64x512 .f32)}
    {α : Type} {Q : α → sProp 𝕄} {k : PUnit → Prog (TpuEff nD τ sig (Elt F) Λ₀ .tc) α} :
    SC m K c i.val d ⊢ iprop((SC m K c (i.val + 1) d -∗ WP c (k ⟨⟩) Q)
      -∗ WP c (.op (.waitDma2 (sem9 cc0_scratch9 (up i)) (slot9 sendM (up i)) (slot9 rxM (up i)) w₁ w₂) fun _ =>
          .op (.enqueueDma (slot9 rxM (up i)) (.remote (Dev.tc n : Thread nD τ) (slot7 ryM i) (.dma (sem7 cc0_scratch10 i)) hsc) (.dma (sem7 cc0_scratch11 i)) w₃ w₄ hsem) fun _ =>
          .op (.load rxM (rect9 (up i)).toLoadRect h₁) fun v => .op (.load rxfM (rect9 (up i)).toLoadRect h₂) fun _ =>
          .op (.store rxfM (rect9 (up i)) (widen v) Finset.univ hx hm) fun _ =>
          .op (.enqueueDma (slot9 rxfM (up i)) (.here (orx c (up i))) (.dma (sem9 cc0_scratch12 (up i))) w₅ w₆ hsem') k) Q) := by
  subst hn
  unfold SC
  iintro ⟨#Hr, HO, HP, HY, HD⟩ Hk
  ihave HP := (show prog (C0 c) (C1 m c) i.val ⊢ iprop(C0 c (up i) ∗ (C1 m c (up i) -∗ prog (C0 c) (C1 m c) (i.val + 1)))
    from prog_step (C0 c) (C1 m c) (up i)) $$ HP
  ihave HY := (prog_step (Y0 c) (Y1 c) i) $$ HY
  unfold C0 C1 Y0 Y1
  icases HP with ⟨⟨HB, Hrxf, HF, Ho⟩, Hback⟩
  icases HY with ⟨⟨HFy, Htok, Hry⟩, HbackY⟩
  iapply (wp_await m K c (cRx (up i)) (fun h => nomatch h) (src := slot9 sendM (up i)) (dst := slot9 rxM (up i)) rfl (credit_rx (up i)) (OY c i.val)
    (above_OY c _ (show 2 < 3 + i.val by omega))) $$ [HB HO]
  · isplitr; · iexact Hr
    isplitl [HB] <;> iassumption
  iintro ⟨Hd, Hrx, HO⟩
  ihave Hrx := (show pay m c (cRx (up i)) false ⊢ iprop(pts (slot9 rxM (up i)) c fullShare.left (rxF m c) ∗ pts (slot9 rxM (up i)) c fullShare.right (rxF m c))
    from (pointsTo_share (PosShare.mem_left_op_right fullShare)).1) $$ Hrx
  icases Hrx with ⟨HrxL, HrxR⟩
  ihave Hry := (Entails.of_eq (show Any (slot7 ryM i) (yp c) = iprop(∃ f, pts (F := F) (slot7 ryM i) (yp c) fullShare f) from rfl)) $$ Hry
  icases Hry with ⟨%fd, Hry⟩
  iapply (wp_push m K c (yp c) (cSy i) (cRy i) (src := slot9 rxM (up i)) (dst := slot7 ryM i) rfl rfl (credit_ry i) rfl fullShare.left (rxF m c) fd (ryF m (yp c))
    (read_ry m c i) (Entails.of_eq rfl) (Entails.of_eq rfl) (O := OY c i.val) (O' := OY c (i.val + 1))
    (OY_step c i)) $$ [HFy Htok HrxL Hry HO]
  · isplitr; · iexact Hr
    isplitl [HFy]; · iexact HFy
    isplitl [Htok]; · iexact Htok
    isplitl [HrxL]; · iexact HrxL
    isplitl [Hry] <;> iassumption
  iintro ⟨HBy, HO⟩
  iapply (wp_widen9 m c (up i) fullShare.right) $$ [HrxR Hrxf]
  · isplitl [HrxR] <;> iassumption
  iintro ⟨HrxR, Hrxf⟩
  unfold Any
  icases Ho with ⟨%fo, Ho⟩
  iapply (wp_move m K c (cOx (up i)) (src := slot9 rxfM (up i)) (dst := orx c (up i)) rfl (credit_orx c (up i)) fullShare (rxfF m c) fo (outF m c) (read_ox m c (up i))
    (pay_move m c (orx c (up i)) (slot9 rxfM (up i)) (outF m c) (rxfF m c) (cOx (up i)) rfl)) $$ [HF Hrxf Ho]
  · isplitr; · iexact Hr
    isplitl [HF]; · iexact HF
    isplitl [Hrxf] <;> iassumption
  iintro HB
  iapply Hk
  rw [shr_up]
  isplitr; · iexact Hr
  isplitl [HO]; · iexact HO
  isplitl [Hback Hd HrxR HB]
  · iapply Hback
    isplitl [Hd]; · iexact Hd
    isplitl [HrxR] <;> iassumption
  isplitl [HbackY HBy]
  · iapply HbackY; iexact HBy
  iexact HD

/-- Slot `i`, one of the last two, is received across the first axis, widened, and its copy into the result begins. -/
theorem wp_recvD (i : Fin 9) (hi : 7 ≤ i.val) (d : ℕ)
    {w₁ : (slot9 sendM i).view.WordExact} {w₂ : (slot9 rxM i).view.WordExact}
    {h₁ : rxM.view.LoadsAt (rect9 i).toLoadRect} {h₂ : rxfM.view.LoadsAt (rect9 i).toLoadRect}
    {hx : (rxfM.access (rect9 i)).Stores Finset.univ} {hm : (Finset.univ : Finset (rect9 i).shape.Idx) = Finset.univ ∨ ∀ a, (rect9 i).stride a = 1}
    {w₅ : (slot9 rxfM i).view.WordExact} {w₆ : (orx c i).view.WordExact}
    {hsem' : DmaTarget.Typed (nD := nD) (.vmem : Space) (.dma (sem9 cc0_scratch12 i)) (.here (orx c i) : DmaTarget nD τ sig .tc .hbm S64x512 .f32)}
    {α : Type} {Q : α → sProp 𝕄} {k : PUnit → Prog (TpuEff nD τ sig (Elt F) Λ₀ .tc) α} :
    SC m K c i.val d ⊢ iprop((SC m K c (i.val + 1) d -∗ WP c (k ⟨⟩) Q)
      -∗ WP c (.op (.waitDma2 (sem9 cc0_scratch9 i) (slot9 sendM i) (slot9 rxM i) w₁ w₂) fun _ =>
          .op (.load rxM (rect9 i).toLoadRect h₁) fun v => .op (.load rxfM (rect9 i).toLoadRect h₂) fun _ =>
          .op (.store rxfM (rect9 i) (widen v) Finset.univ hx hm) fun _ =>
          .op (.enqueueDma (slot9 rxfM i) (.here (orx c i)) (.dma (sem9 cc0_scratch12 i)) w₅ w₆ hsem') k) Q) := by
  have hO : ∀ n, 7 ≤ n → OY c n = 0 := fun n hn => Finset.sum_eq_zero fun j _ => if_neg (by have := j.isLt; omega)
  unfold SC
  rw [hO _ hi, hO _ (Nat.le_succ_of_le hi), prog_end (Y0 c) (Y1 c) _ hi, prog_end (Y0 c) (Y1 c) _ (Nat.le_succ_of_le hi)]
  iintro ⟨#Hr, HO, HP, HY, HD⟩ Hk
  ihave HP := (prog_step (C0 c) (C1 m c) i) $$ HP
  unfold C0 C1
  icases HP with ⟨⟨HB, Hrxf, HF, Ho⟩, Hback⟩
  iapply (wp_await m K c (cRx i) (fun h => nomatch h) (src := slot9 sendM i) (dst := slot9 rxM i) rfl (credit_rx i) 0 (Above.zero _)) $$ [HB HO]
  · isplitr; · iexact Hr
    isplitl [HB] <;> iassumption
  iintro ⟨Hd, Hrx, HO⟩
  ihave Hrx := (Entails.of_eq (show pay m c (cRx i) false = pts (slot9 rxM i) c fullShare (rxF m c) from rfl)) $$ Hrx
  iapply (wp_widen9 m c i fullShare) $$ [Hrx Hrxf]
  · isplitl [Hrx] <;> iassumption
  iintro ⟨Hrx, Hrxf⟩
  unfold Any
  icases Ho with ⟨%fo, Ho⟩
  iapply (wp_move m K c (cOx i) (src := slot9 rxfM i) (dst := orx c i) rfl (credit_orx c i) fullShare (rxfF m c) fo (outF m c) (read_ox m c i)
    (pay_move m c (orx c i) (slot9 rxfM i) (outF m c) (rxfF m c) (cOx i) rfl)) $$ [HF Hrxf Ho]
  · isplitr; · iexact Hr
    isplitl [HF]; · iexact HF
    isplitl [Hrxf] <;> iassumption
  iintro HB
  iapply Hk
  rw [show shr i = fullShare from if_neg (Nat.not_lt.mpr hi)]
  isplitr; · iexact Hr
  isplitl [HO]; · iexact HO
  isplitl [Hback Hd Hrx HB]
  · iapply Hback
    isplitl [Hd]; · iexact Hd
    isplitl [Hrx] <;> iassumption
  isplitl [HY] <;> iassumption

/-- Slot `i` is received across the second axis, widened, and its copy into the result begins; the device has passed on more
    than `i` slots. -/
theorem wp_recvY (i : Fin 7) (n : ℕ) (hn : i.val < n)
    {w₁ : (slot9 rxM (up i)).view.WordExact} {w₂ : (slot7 ryM i).view.WordExact}
    {h₁ : ryM.view.LoadsAt (rect7 i).toLoadRect} {h₂ : ryfM.view.LoadsAt (rect7 i).toLoadRect}
    {hx : (ryfM.access (rect7 i)).Stores Finset.univ} {hm : (Finset.univ : Finset (rect7 i).shape.Idx) = Finset.univ ∨ ∀ a, (rect7 i).stride a = 1}
    {w₅ : (slot7 ryfM i).view.WordExact} {w₆ : (ory c i).view.WordExact}
    {hsem' : DmaTarget.Typed (nD := nD) (.vmem : Space) (.dma (sem7 cc0_scratch13 i)) (.here (ory c i) : DmaTarget nD τ sig .tc .hbm S64x512 .f32)}
    {α : Type} {Q : α → sProp 𝕄} {k : PUnit → Prog (TpuEff nD τ sig (Elt F) Λ₀ .tc) α} :
    SC m K c n i.val ⊢ iprop((SC m K c n (i.val + 1) -∗ WP c (k ⟨⟩) Q)
      -∗ WP c (.op (.waitDma2 (sem7 cc0_scratch11 i) (slot9 rxM (up i)) (slot7 ryM i) w₁ w₂) fun _ =>
          .op (.load ryM (rect7 i).toLoadRect h₁) fun v => .op (.load ryfM (rect7 i).toLoadRect h₂) fun _ =>
          .op (.store ryfM (rect7 i) (widen v) Finset.univ hx hm) fun _ =>
          .op (.enqueueDma (slot7 ryfM i) (.here (ory c i)) (.dma (sem7 cc0_scratch13 i)) w₅ w₆ hsem') k) Q) := by
  unfold SC
  iintro ⟨#Hr, HO, HP, HY, HD⟩ Hk
  ihave HD := (prog_step (D0 c) (D1 m c) i) $$ HD
  unfold D0 D1
  icases HD with ⟨⟨HB, Hryf, HF, Ho⟩, Hback⟩
  iapply (wp_await m K c (cRy i) (fun h => nomatch h) (src := slot9 rxM (up i)) (dst := slot7 ryM i) rfl (credit_ry i) (OY c n)
    (above_OY c n (show 3 + i.val < 3 + n by omega))) $$ [HB HO]
  · isplitr; · iexact Hr
    isplitl [HB] <;> iassumption
  iintro ⟨Hd, Hry, HO⟩
  ihave Hry := (Entails.of_eq (show pay m c (cRy i) false = pts (slot7 ryM i) c fullShare (ryF m c) from rfl)) $$ Hry
  iapply (wp_widen7 m c i) $$ [Hry Hryf]
  · isplitl [Hry] <;> iassumption
  iintro ⟨Hry, Hryf⟩
  unfold Any
  icases Ho with ⟨%fo, Ho⟩
  iapply (wp_move m K c (cOy i) (src := slot7 ryfM i) (dst := ory c i) rfl (credit_ory c i) fullShare (ryfF m c) fo (outF m c) (read_oy m c i)
    (pay_move m c (ory c i) (slot7 ryfM i) (outF m c) (ryfF m c) (cOy i) rfl)) $$ [HF Hryf Ho]
  · isplitr; · iexact Hr
    isplitl [HF]; · iexact HF
    isplitl [Hryf] <;> iassumption
  iintro HB
  iapply Hk
  isplitr; · iexact Hr
  isplitl [HO]; · iexact HO
  isplitl [HP]; · iexact HP
  isplitl [HY]; · iexact HY
  iapply Hback
  isplitl [Hd]; · iexact Hd
  isplitl [Hry] <;> iassumption

/-- The wait for the copy of the device's own rows. -/
theorem wp_ownWait {w₁ : (xloc c).view.WordExact} {w₂ : (oloc c).view.WordExact}
    {α : Type} {Q : α → sProp 𝕄} {k : PUnit → Prog (TpuEff nD τ sig (Elt F) Λ₀ .tc) α} :
    iprop(recs m K ∗ Busy c cLoc ∗ Ow c 0) ⊢ iprop(((Loc2 m c ∗ Ow c 0) -∗ WP c (k ⟨⟩) Q)
      -∗ WP c (.op (.waitDma2 semLoc (xloc c) (oloc c) w₁ w₂) k) Q) := by
  iintro ⟨#Hr, HB, HO⟩ Hk
  iapply (wp_await m K c cLoc (fun h => nomatch h) (src := xloc c) (dst := oloc c) rfl (credit_loc c) 0 (Above.zero _)) $$ [HB HO]
  · isplitr; · iexact Hr
    isplitl [HB] <;> iassumption
  iintro ⟨Hd, Hpay, HO⟩
  ihave Hpay := (Entails.of_eq (show pay m c cLoc false = iprop(pts (oloc c) c fullShare (outF m c) ∗ pts (xloc c) c fullShare (xA m c)) from rfl)) $$ Hpay
  iapply Hk
  unfold Loc2
  isplitl [Hd Hpay]
  · isplitl [Hd] <;> iassumption
  iexact HO

/-- The final waits for slot `i` of the first axis: it has been sent, and what it received has been copied. -/
theorem wp_endX (i : Fin 9) {w₁ : (slot9 rxM i).view.WordExact} {w₂ : (slot9 sendM i).view.WordExact}
    {w₃ : (slot9 rxfM i).view.WordExact} {w₄ : (orx c i).view.WordExact}
    {α : Type} {Q : α → sProp 𝕄} {k : PUnit → Prog (TpuEff nD τ sig (Elt F) Λ₀ .tc) α} :
    SX m K c i.val ⊢ iprop((SX m K c (i.val + 1) -∗ WP c (k ⟨⟩) Q)
      -∗ WP c (.op (.waitDma2 (sem9 cc0_scratch8 i) (slot9 rxM i) (slot9 sendM i) w₁ w₂) fun _ =>
          .op (.waitDma2 (sem9 cc0_scratch12 i) (slot9 rxfM i) (orx c i) w₃ w₄) k) Q) := by
  unfold SX
  iintro ⟨#Hr, HO, HP⟩ Hk
  ihave HP := (prog_step (fun i => iprop(Busy c (cSx i) ∗ Busy c (cOx i))) (X2 m c) i) $$ HP
  unfold X2
  icases HP with ⟨⟨HB, HB'⟩, Hback⟩
  iapply (wp_await m K c (cSx i) (fun h => nomatch h) (src := slot9 rxM i) (dst := slot9 sendM i) rfl (credit_send i) 0 (Above.zero _)) $$ [HB HO]
  · isplitr; · iexact Hr
    isplitl [HB] <;> iassumption
  iintro ⟨Hd, Hpay, HO⟩
  iapply (wp_await m K c (cOx i) (fun h => nomatch h) (src := slot9 rxfM i) (dst := orx c i) rfl (credit_orx c i) 0 (Above.zero _)) $$ [HB' HO]
  · isplitr; · iexact Hr
    isplitl [HB'] <;> iassumption
  iintro ⟨Hd', Hpay', HO⟩
  ihave Hpay := (Entails.of_eq (show pay m c (cSx i) false = pts (slot9 sendM i) c fullShare (sendF m c) from rfl)) $$ Hpay
  ihave Hpay' := (Entails.of_eq (show pay m c (cOx i) false = iprop(pts (orx c i) c fullShare (outF m c) ∗ pts (slot9 rxfM i) c fullShare (rxfF m c)) from rfl)) $$ Hpay'
  iapply Hk
  isplitr; · iexact Hr
  isplitl [HO]; · iexact HO
  iapply Hback
  isplitl [Hd Hpay]
  · isplitl [Hd] <;> iassumption
  isplitl [Hd'] <;> iassumption

/-- The final waits for slot `i` of the second axis. -/
theorem wp_endY (i : Fin 7) {w₁ : (slot7 ryM i).view.WordExact} {w₂ : (slot9 rxM (up i)).view.WordExact}
    {w₃ : (slot7 ryfM i).view.WordExact} {w₄ : (ory c i).view.WordExact}
    {α : Type} {Q : α → sProp 𝕄} {k : PUnit → Prog (TpuEff nD τ sig (Elt F) Λ₀ .tc) α} :
    SY m K c i.val ⊢ iprop((SY m K c (i.val + 1) -∗ WP c (k ⟨⟩) Q)
      -∗ WP c (.op (.waitDma2 (sem7 cc0_scratch10 i) (slot7 ryM i) (slot9 rxM (up i)) w₁ w₂) fun _ =>
          .op (.waitDma2 (sem7 cc0_scratch13 i) (slot7 ryfM i) (ory c i) w₃ w₄) k) Q) := by
  unfold SY
  iintro ⟨#Hr, HO, HP⟩ Hk
  ihave HP := (prog_step (fun i => iprop(Busy c (cSy i) ∗ Busy c (cOy i))) (Y2 m c) i) $$ HP
  unfold Y2
  icases HP with ⟨⟨HB, HB'⟩, Hback⟩
  iapply (wp_await m K c (cSy i) (fun h => nomatch h) (src := slot7 ryM i) (dst := slot9 rxM (up i)) rfl (credit_rx (up i)) 0 (Above.zero _)) $$ [HB HO]
  · isplitr; · iexact Hr
    isplitl [HB] <;> iassumption
  iintro ⟨Hd, Hpay, HO⟩
  iapply (wp_await m K c (cOy i) (fun h => nomatch h) (src := slot7 ryfM i) (dst := ory c i) rfl (credit_ory c i) 0 (Above.zero _)) $$ [HB' HO]
  · isplitr; · iexact Hr
    isplitl [HB'] <;> iassumption
  iintro ⟨Hd', Hpay', HO⟩
  ihave Hpay := (Entails.of_eq (show pay m c (cSy i) false = pts (slot9 rxM (up i)) c fullShare.left (rxF m c) from rfl)) $$ Hpay
  ihave Hpay' := (Entails.of_eq (show pay m c (cOy i) false = iprop(pts (ory c i) c fullShare (outF m c) ∗ pts (slot7 ryfM i) c fullShare (ryfF m c)) from rfl)) $$ Hpay'
  iapply Hk
  isplitr; · iexact Hr
  isplitl [HO]; · iexact HO
  iapply Hback
  isplitl [Hd Hpay]
  · isplitl [Hd] <;> iassumption
  isplitl [Hd'] <;> iassumption

end Blocks

end Cert.Reshard

end
-- ==== Proof.Body.lean ====
/-
The kernel's body on one device: the handshake with the two neighbours, then the blocks in program order.
-/
module

public import proofs.«01_k».proof.Proof.Blocks
public import proofs.«01_k».proof.Proof.Gen.KernelIdeal.Points

@[expose] public section

noncomputable section

namespace Cert.Reshard

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Cell → ℕ)

/-! ## The printed device numbers -/

/-- Each printed device number is a partner: the signals', the nine sends' and the seven passes'. -/
theorem dev1 : ∀ c : Dev nD, (⟨k0_dev1 c, k0_dev1_lt c⟩ : Dev nD) = xp c := by decide
theorem dev2 : ∀ c : Dev nD, (⟨k0_dev2 c, k0_dev2_lt c⟩ : Dev nD) = yp c := by decide
theorem dev3 : ∀ c : Dev nD, (⟨k0_dev3 c, k0_dev3_lt c⟩ : Dev nD) = xp c := by decide
theorem dev4 : ∀ c : Dev nD, (⟨k0_dev4 c, k0_dev4_lt c⟩ : Dev nD) = xp c := by decide
theorem dev5 : ∀ c : Dev nD, (⟨k0_dev5 c, k0_dev5_lt c⟩ : Dev nD) = xp c := by decide
theorem dev6 : ∀ c : Dev nD, (⟨k0_dev6 c, k0_dev6_lt c⟩ : Dev nD) = xp c := by decide
theorem dev7 : ∀ c : Dev nD, (⟨k0_dev7 c, k0_dev7_lt c⟩ : Dev nD) = xp c := by decide
theorem dev8 : ∀ c : Dev nD, (⟨k0_dev8 c, k0_dev8_lt c⟩ : Dev nD) = xp c := by decide
theorem dev9 : ∀ c : Dev nD, (⟨k0_dev9 c, k0_dev9_lt c⟩ : Dev nD) = xp c := by decide
theorem dev10 : ∀ c : Dev nD, (⟨k0_dev10 c, k0_dev10_lt c⟩ : Dev nD) = xp c := by decide
theorem dev11 : ∀ c : Dev nD, (⟨k0_dev11 c, k0_dev11_lt c⟩ : Dev nD) = xp c := by decide
theorem dev12 : ∀ c : Dev nD, (⟨k0_dev12 c, k0_dev12_lt c⟩ : Dev nD) = yp c := by decide
theorem dev13 : ∀ c : Dev nD, (⟨k0_dev13 c, k0_dev13_lt c⟩ : Dev nD) = yp c := by decide
theorem dev14 : ∀ c : Dev nD, (⟨k0_dev14 c, k0_dev14_lt c⟩ : Dev nD) = yp c := by decide
theorem dev15 : ∀ c : Dev nD, (⟨k0_dev15 c, k0_dev15_lt c⟩ : Dev nD) = yp c := by decide
theorem dev16 : ∀ c : Dev nD, (⟨k0_dev16 c, k0_dev16_lt c⟩ : Dev nD) = yp c := by decide
theorem dev17 : ∀ c : Dev nD, (⟨k0_dev17 c, k0_dev17_lt c⟩ : Dev nD) = yp c := by decide
theorem dev18 : ∀ c : Dev nD, (⟨k0_dev18 c, k0_dev18_lt c⟩ : Dev nD) = yp c := by decide

variable (c : Dev nD)

/-! ## The handshake -/

/-- The barrier cell before the handshake, with the duties the device pays to its two neighbours. -/
def Bar0 : sProp 𝕄 :=
  iprop(dutyTok ER (kc (xp c) cBar) 0 false ∗ dutyTok ER (kc (yp c) cBar) 0 true ∗ Any rxM c ∗ Any ryM c ∗ Ow c (O₀ c))

/-- The two signals: each neighbour may write into the device's landing buffer. -/
theorem wp_greet (n n' : Dev nD) (hn : n = xp c) (hn' : n' = yp c) {α : Type} {Q : α → sProp 𝕄} {k : PUnit → Prog (TpuEff nD τ sig (Elt F) Λ₀ .tc) α} :
    iprop(recs m K ∗ Bar0 c) ⊢ iprop((Ow c (OX c 0 + OY c 0) -∗ WP c (k ⟨⟩) Q)
      -∗ WP c (.op (.semSignal (n : Thread nD τ) barS (1#32).toNat) fun _ => .op (.semSignal (n' : Thread nD τ) barS (1#32).toNat) k) Q) := by
  subst hn hn'
  unfold Bar0 Ow Any
  iintro ⟨#Hr, Hx, Hy, Hrx, Hry, ⟨%W, HO⟩⟩ Hk
  iapply (Rounds.wp_signal 𝒱₀ ER (rd m) (c : Thread nD τ) none (dst := (xp c : Thread nD τ)) (κ := K (xp c, cBar))
      (d := false) (by rw [show ((xp c : Thread nD τ), SemLoc.reg barS) = kc (xp c) cBar from rfl, duties_kc]; exact Finset.mem_univ _)
      ((amount_kc m (xp c) cBar false).trans (by decide)) () (O₁ c) rfl) $$ [HO Hx Hrx]
  · isplitr; · iapply (recs_inv m K (xp c) cBar); iexact Hr
    isplitl [HO]; · iexact HO
    isplitl [Hx]; · iexact Hx
    isplitl [Hrx]
    · rw [show ((xp c : Thread nD τ), SemLoc.reg barS) = kc (xp c) cBar from rfl, payload_kc]
      show _ ⊢ iprop(∃ f, pts rxM (xp (xp c)) fullShare f)
      rw [xp_xp]; iintro ⟨-, H⟩; iexact H
    iapply (recs_reached m K (xp c) cBar); iexact Hr
  iintro HO
  iapply (Rounds.wp_signal 𝒱₀ ER (rd m) (c : Thread nD τ) none (dst := (yp c : Thread nD τ)) (κ := K (yp c, cBar))
      (d := true) (by rw [show ((yp c : Thread nD τ), SemLoc.reg barS) = kc (yp c) cBar from rfl, duties_kc]; exact Finset.mem_univ _)
      ((amount_kc m (yp c) cBar true).trans (by decide)) () (OX c 0 + OY c 0) rfl) $$ [HO Hy Hry]
  · isplitr; · iapply (recs_inv m K (yp c) cBar); iexact Hr
    isplitl [HO]; · iexact HO
    isplitl [Hy]; · iexact Hy
    isplitl [Hry]
    · rw [show ((yp c : Thread nD τ), SemLoc.reg barS) = kc (yp c) cBar from rfl, payload_kc]
      show _ ⊢ iprop(∃ f, pts ryM (yp (yp c)) fullShare f)
      rw [yp_yp]; iintro ⟨-, H⟩; iexact H
    iapply (recs_reached m K (yp c) cBar); iexact Hr
  iintro HO
  iapply Hk
  iexists _; iexact HO

/-- The wait for both neighbours: the device may write into their landing buffers. -/
theorem wp_met {α : Type} {Q : α → sProp 𝕄} {k : PUnit → Prog (TpuEff nD τ sig (Elt F) Λ₀ .tc) α} :
    iprop(recs m K ∗ (atPos ER (kc c cBar) 0 ∅ 0 ∗ cred (tallyAt (kc c cBar) () 2)) ∗ Ow c (OX c 0 + OY c 0))
      ⊢ iprop(((Done c cBar ∗ (Any rxM (xp c) ∗ Any ryM (yp c)) ∗ Ow c (OX c 0 + OY c 0)) -∗ WP c (k ⟨⟩) Q)
      -∗ WP c (.op (.semWait barS (2#32).toNat) k) Q) := by
  unfold Ow
  iintro ⟨#Hr, ⟨Hat, Hc⟩, ⟨%W, HO⟩⟩ Hk
  iapply (Rounds.wp_wait_rest_token 𝒱₀ ER (rd m) (c : Thread nD τ) none (κ := K (c, cBar))
      (wpE_semWait_eq 𝒱₀ (c : Thread nD τ) none Set.univ) (Set.mem_univ _) () (O := OX c 0 + OY c 0) (W := W) (R := 0) (m := 0) (T := ∅)
      (by rw [show ((c : Thread nD τ), SemLoc.reg barS) = kc c cBar from rfl, expect_bar]; decide)) $$ [Hat Hc HO]
  · isplitr; · iapply (recs_inv m K c cBar); iexact Hr
    isplitl [Hc]; · iexact Hc
    isplitl [HO]; · iexact HO
    isplitr
    · iapply (mayWait c (.reg barS) (OX c 0 + OY c 0) ((above_OX c 0 (by decide)).add (above_OY c 0 (by decide)))); iapply (recs_lev m K); iexact Hr
    iexact Hat
  iintro ⟨HO, Hat, -, Hpay⟩
  ihave Hpay := (show bigSep ((rd m).duties ((c : Thread nD τ), SemLoc.reg barS) 0 \ ∅) (fun d => (rd m).payload ((c : Thread nD τ), SemLoc.reg barS) 0 d)
    ⊢ iprop((∃ f, pts rxM (xp c) fullShare f) ∗ (∃ f, pts ryM (yp c) fullShare f)) from Entails.of_eq (rest_bar m c)) $$ Hpay
  icases Hpay with ⟨Hx, Hy⟩
  imod (Rounds.cell_close ER (rd m) (Set.mem_univ (K (c, cBar))) (fun h => h) (R := 0 + 1) (duties_later m (kc c cBar))) $$ [Hat] with Hz
  · isplitr; · iapply (recs_inv m K c cBar); iexact Hr
    iexact Hat
  iapply Hk
  unfold Done Any
  isplitl [Hz]; · iexact Hz
  isplitl [Hx Hy]
  · isplitl [Hx]; · iexact Hx
    iexact Hy
  iexists _; iexact HO

/-! ## Between the phases -/

/-- A buffer of nine slots with any contents is nine slots with any contents; -/
theorem any_slots9 {e : EltTy} (b : Memref sig .tc .vmem S9x64x512 e) (c : Dev nD) :
    (Any b c : sProp 𝕄) ⊢ bigSep Finset.univ fun i => Any (slot9 b i) c := by
  have h₀ : ∀ (f : Buf (Elt F) (b.view.loc (c : Thread nD τ))) i, (pts (slot9 b i) c fullShare f : sProp 𝕄) ⊢ Any (slot9 b i) c := fun f i => by
    unfold Any; iintro H; iexists f; iexact H
  have h : ∀ f : Buf (Elt F) (b.view.loc (c : Thread nD τ)), (bigSep Finset.univ fun i => pts (slot9 b i) c fullShare f : sProp 𝕄) ⊢ bigSep Finset.univ fun i => Any (slot9 b i) c :=
    fun f => bigSep_mono fun i _ => h₀ f i
  unfold Any
  iintro ⟨%f, H⟩
  ihave H := (Entails.of_eq (pts_slots9 b c fullShare f)) $$ H
  iapply (h f); iexact H
/-- and likewise one of seven. -/
theorem any_slots7 {e : EltTy} (b : Memref sig .tc .vmem S7x64x512 e) (c : Dev nD) :
    (Any b c : sProp 𝕄) ⊢ bigSep Finset.univ fun i => Any (slot7 b i) c := by
  have h₀ : ∀ (f : Buf (Elt F) (b.view.loc (c : Thread nD τ))) i, (pts (slot7 b i) c fullShare f : sProp 𝕄) ⊢ Any (slot7 b i) c := fun f i => by
    unfold Any; iintro H; iexists f; iexact H
  have h : ∀ f : Buf (Elt F) (b.view.loc (c : Thread nD τ)), (bigSep Finset.univ fun i => pts (slot7 b i) c fullShare f : sProp 𝕄) ⊢ bigSep Finset.univ fun i => Any (slot7 b i) c :=
    fun f => bigSep_mono fun i _ => h₀ f i
  unfold Any
  iintro ⟨%f, H⟩
  ihave H := (Entails.of_eq (pts_slots7 b c fullShare f)) $$ H
  iapply (h f); iexact H

/-- What the sends across the first axis, and across the second, need besides the neighbour's slot. -/
def B00 (i : Fin 9) : sProp 𝕄 := iprop(Any (slot9 sendM i) c ∗ Fresh c (cSx i) ∗ dutyTok ER (kc (xp c) (cRx i)) 0 false)
def Y00 (i : Fin 7) : sProp 𝕄 := iprop(Fresh c (cSy i) ∗ dutyTok ER (kc (yp c) (cRy i)) 0 false)

/-- What is left of a slot of either axis once its receiving is done. -/
def R9 (i : Fin 9) : sProp 𝕄 :=
  iprop((Done c (cIn i) ∗ pts (slot9 stageM i) c fullShare (stageF m c) ∗ pts (xin c i) c fullShare (xA m c)) ∗ Done c (cRx i) ∗ pts (slot9 rxM i) c (shr i) (rxF m c))
def R7 (i : Fin 7) : sProp 𝕄 := iprop(Done c (cRy i) ∗ pts (slot7 ryM i) c fullShare (ryF m c))

/-- When all rows are on their way to the staging buffer, the sending begins; -/
theorem to_send : iprop(SA m K c 9 ∗ Ow c (OX c 0 + OY c 0) ∗ (bigSep Finset.univ (B00 c)) ∗ Any rxM (xp c)) ⊢ SB m K c 0 := by
  have h : ∀ i, iprop((A1 c i ∗ B00 c i) ∗ Any (slot9 rxM i) (xp c)) ⊢ (iprop(A1 c i ∗ B0 c i) : sProp 𝕄) := fun i => by
    unfold B00 B0
    iintro ⟨⟨HA, H1, H2, H3⟩, H4⟩
    isplitl [HA]; · iexact HA
    isplitl [H1]; · iexact H1
    isplitl [H2]; · iexact H2
    isplitl [H3] <;> iassumption
  have h' : iprop(((bigSep Finset.univ (A1 c)) ∗ (bigSep Finset.univ (B00 c))) ∗ bigSep Finset.univ fun i => Any (slot9 rxM i) (xp c))
      ⊢ (bigSep Finset.univ fun i => iprop(A1 c i ∗ B0 c i) : sProp 𝕄) := by
    rw [← bigSep_sep', ← bigSep_sep']; exact bigSep_mono fun i _ => h i
  unfold SA SB
  rw [prog_end (A0 m c) (A1 c) 9 le_rfl, prog_zero]
  iintro ⟨⟨#Hr, HA⟩, HO, HB, Hrx⟩
  ihave Hrx := (any_slots9 rxM (xp c)) $$ Hrx
  isplitr; · iexact Hr
  isplitl [HO]; · iexact HO
  iapply h'
  isplitl [HA HB]
  · isplitl [HA] <;> iassumption
  iexact Hrx

/-- when all are sent, the receiving; -/
theorem to_recv : iprop(SB m K c 9 ∗ (bigSep Finset.univ (C0 c)) ∗ (bigSep Finset.univ (Y00 c)) ∗ Any ryM (yp c) ∗ (bigSep Finset.univ (D0 c)))
    ⊢ iprop(SC m K c 0 0 ∗ bigSep Finset.univ (B1 m c)) := by
  have h : ∀ i, iprop(Y00 c i ∗ Any (slot7 ryM i) (yp c)) ⊢ (Y0 c i : sProp 𝕄) := fun i => by
    unfold Y00 Y0
    iintro ⟨⟨H1, H2⟩, H3⟩
    isplitl [H1]; · iexact H1
    isplitl [H2] <;> iassumption
  have h' : iprop((bigSep Finset.univ (Y00 c)) ∗ bigSep Finset.univ fun i => Any (slot7 ryM i) (yp c)) ⊢ (bigSep Finset.univ (Y0 c) : sProp 𝕄) := by
    rw [← bigSep_sep']; exact bigSep_mono fun i _ => h i
  unfold SB SC
  rw [prog_end _ (B1 m c) 9 le_rfl, OX_end, zero_add, prog_zero, prog_zero, prog_zero]
  iintro ⟨⟨#Hr, HO, HB⟩, HC, HY, Hry, HD⟩
  ihave Hry := (any_slots7 ryM (yp c)) $$ Hry
  isplitr [HB]
  · isplitr; · iexact Hr
    isplitl [HO]; · iexact HO
    isplitl [HC]; · iexact HC
    isplitr [HD]
    · iapply h'
      isplitl [HY] <;> iassumption
    iexact HD
  iexact HB

/-- and when all are received, the final waits. -/
theorem to_end : iprop(SC m K c 9 7 ∗ bigSep Finset.univ (B1 m c))
    ⊢ iprop(recs m K ∗ Ow c 0 ∗ (bigSep Finset.univ fun i => iprop(Busy c (cSx i) ∗ Busy c (cOx i)))
      ∗ (bigSep Finset.univ fun i => iprop(Busy c (cSy i) ∗ Busy c (cOy i))) ∗ (bigSep Finset.univ (R9 m c)) ∗ bigSep Finset.univ (R7 m c)) := by
  have h : ∀ i, iprop(C1 m c i ∗ B1 m c i) ⊢ (iprop((Busy c (cSx i) ∗ Busy c (cOx i)) ∗ R9 m c i) : sProp 𝕄) := fun i => by
    unfold C1 B1 R9
    iintro ⟨⟨H1, H2, H3⟩, H4, H5⟩
    isplitl [H4 H3]
    · isplitl [H4] <;> iassumption
    isplitl [H5]; · iexact H5
    isplitl [H1] <;> iassumption
  have h9 : iprop((bigSep Finset.univ (C1 m c)) ∗ bigSep Finset.univ (B1 m c))
      ⊢ (iprop((bigSep Finset.univ fun i => iprop(Busy c (cSx i) ∗ Busy c (cOx i))) ∗ bigSep Finset.univ (R9 m c)) : sProp 𝕄) := by
    rw [← bigSep_sep', ← bigSep_sep']; exact bigSep_mono fun i _ => h i
  have h' : ∀ i, iprop(Y1 c i ∗ D1 m c i) ⊢ (iprop((Busy c (cSy i) ∗ Busy c (cOy i)) ∗ R7 m c i) : sProp 𝕄) := fun i => by
    unfold Y1 D1 R7
    iintro ⟨H1, H2, H3, H4⟩
    isplitl [H1 H4]
    · isplitl [H1] <;> iassumption
    isplitl [H2] <;> iassumption
  have h7 : iprop((bigSep Finset.univ (Y1 c)) ∗ bigSep Finset.univ (D1 m c))
      ⊢ (iprop((bigSep Finset.univ fun i => iprop(Busy c (cSy i) ∗ Busy c (cOy i))) ∗ bigSep Finset.univ (R7 m c)) : sProp 𝕄) := by
    rw [← bigSep_sep', ← bigSep_sep']; exact bigSep_mono fun i _ => h' i
  unfold SC
  rw [show OY c 9 = 0 from Finset.sum_eq_zero fun i _ => if_neg (by have := i.isLt; omega), prog_end _ (C1 m c) 9 le_rfl,
    prog_end _ (Y1 c) 9 (by decide), prog_end _ (D1 m c) 7 le_rfl]
  iintro ⟨⟨#Hr, HO, HC, HY, HD⟩, HB⟩
  ihave HX := h9 $$ [HC HB]
  · isplitl [HC] <;> iassumption
  ihave HZ := h7 $$ [HY HD]
  · isplitl [HY] <;> iassumption
  icases HX with ⟨HX, HR9⟩
  icases HZ with ⟨HZ, HR7⟩
  isplitr; · iexact Hr
  isplitl [HO]; · iexact HO
  isplitl [HX]; · iexact HX
  isplitl [HZ]; · iexact HZ
  isplitl [HR9] <;> iassumption

/-! ## The body -/

/-- What the body starts from, and what it leaves. -/
def pre : sProp 𝕄 :=
  iprop(Bar0 c ∗ (atPos ER (kc c cBar) 0 ∅ 0 ∗ cred (tallyAt (kc c cBar) () 2)) ∗ Loc0 m c ∗ (bigSep Finset.univ (A0 m c)) ∗ (bigSep Finset.univ (B00 c))
    ∗ (bigSep Finset.univ (C0 c)) ∗ (bigSep Finset.univ (Y00 c)) ∗ bigSep Finset.univ (D0 c))
/-- What the body ends with. -/
def post : sProp 𝕄 :=
  iprop(Ow c 0 ∗ Done c cBar ∗ Loc2 m c ∗ (bigSep Finset.univ (R9 m c)) ∗ (bigSep Finset.univ (R7 m c)) ∗ (bigSep Finset.univ (X2 m c)) ∗ bigSep Finset.univ (Y2 m c))

set_option maxRecDepth 16000 in
set_option maxHeartbeats 8000000 in
/-- The body runs from the one to the other. -/
theorem body_run (Q : PUnit → sProp 𝕄) : iprop(recs m K ∗ pre m c ∗ (post m c -∗ Q ⟨⟩)) ⊢ WP c (bodyAt0 (F := F) t0_0) Q := by
  unfold bodyAt0
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel k0_part36_skel k0_part37_skel
  simp only [semSignalWord, semWaitWord, Prog.lift, Prog.bind_op, Prog.bind_ret, Prog.pure_eq_ret, wp_deviceId]
  unfold pre
  iintro ⟨#Hr, ⟨HBar, Hbar, HL, HA, HB, HC, HY, HD⟩, Hk⟩
  iapply (wp_greet m K c _ _ (dev1 c) (dev2 c)) $$ [HBar]
  · isplitr; · iexact Hr
    iexact HBar
  iintro HO
  ihave H : SA m K c 0 $$ [HA]
  · unfold SA; rw [prog_zero]
    isplitr; · iexact Hr
    iexact HA
  iapply (wp_in m K c ⟨0, by decide⟩) $$ H; iintro H
  iapply (wp_in m K c ⟨1, by decide⟩) $$ H; iintro H
  iapply (wp_in m K c ⟨2, by decide⟩) $$ H; iintro H
  iapply (wp_in m K c ⟨3, by decide⟩) $$ H; iintro H
  iapply (wp_in m K c ⟨4, by decide⟩) $$ H; iintro H
  iapply (wp_in m K c ⟨5, by decide⟩) $$ H; iintro H
  iapply (wp_in m K c ⟨6, by decide⟩) $$ H; iintro H
  iapply (wp_in m K c ⟨7, by decide⟩) $$ H; iintro H
  iapply (wp_in m K c ⟨8, by decide⟩) $$ H; iintro H
  iapply (wp_own m K c) $$ [HL]
  · isplitr; · iexact Hr
    iexact HL
  iintro HL
  iapply (wp_met m K c) $$ [Hbar HO]
  · isplitr; · iexact Hr
    isplitl [Hbar]; · iexact Hbar
    iexact HO
  iintro ⟨Hbar, ⟨Hrx, Hry⟩, HO⟩
  ihave H := (to_send m K c) $$ [H HO HB Hrx]
  · isplitl [H]; · iexact H
    isplitl [HO]; · iexact HO
    isplitl [HB] <;> iassumption
  iapply (wp_sendX m K c ⟨0, by decide⟩ _ (dev3 c)) $$ H; iintro H
  iapply (wp_sendX m K c ⟨1, by decide⟩ _ (dev4 c)) $$ H; iintro H
  iapply (wp_sendX m K c ⟨2, by decide⟩ _ (dev5 c)) $$ H; iintro H
  iapply (wp_sendX m K c ⟨3, by decide⟩ _ (dev6 c)) $$ H; iintro H
  iapply (wp_sendX m K c ⟨4, by decide⟩ _ (dev7 c)) $$ H; iintro H
  iapply (wp_sendX m K c ⟨5, by decide⟩ _ (dev8 c)) $$ H; iintro H
  iapply (wp_sendX m K c ⟨6, by decide⟩ _ (dev9 c)) $$ H; iintro H
  iapply (wp_sendX m K c ⟨7, by decide⟩ _ (dev10 c)) $$ H; iintro H
  iapply (wp_sendX m K c ⟨8, by decide⟩ _ (dev11 c)) $$ H; iintro H
  ihave H := (to_recv m K c) $$ [H HC HY Hry HD]
  · isplitl [H]; · iexact H
    isplitl [HC]; · iexact HC
    isplitl [HY]; · iexact HY
    isplitl [Hry] <;> iassumption
  icases H with ⟨H, HB⟩
  iapply (wp_recvX m K c ⟨0, by decide⟩ 0 _ (dev12 c)) $$ H; iintro H
  iapply (wp_recvX m K c ⟨1, by decide⟩ 0 _ (dev13 c)) $$ H; iintro H
  iapply (wp_recvX m K c ⟨2, by decide⟩ 0 _ (dev14 c)) $$ H; iintro H
  iapply (wp_recvX m K c ⟨3, by decide⟩ 0 _ (dev15 c)) $$ H; iintro H
  iapply (wp_recvY m K c ⟨0, by decide⟩ 4 (by decide)) $$ H; iintro H
  iapply (wp_recvX m K c ⟨4, by decide⟩ 1 _ (dev16 c)) $$ H; iintro H
  iapply (wp_recvY m K c ⟨1, by decide⟩ 5 (by decide)) $$ H; iintro H
  iapply (wp_recvX m K c ⟨5, by decide⟩ 2 _ (dev17 c)) $$ H; iintro H
  iapply (wp_recvY m K c ⟨2, by decide⟩ 6 (by decide)) $$ H; iintro H
  iapply (wp_recvX m K c ⟨6, by decide⟩ 3 _ (dev18 c)) $$ H; iintro H
  iapply (wp_recvY m K c ⟨3, by decide⟩ 7 (by decide)) $$ H; iintro H
  iapply (wp_recvD m K c ⟨7, by decide⟩ (by decide) 4) $$ H; iintro H
  iapply (wp_recvY m K c ⟨4, by decide⟩ 8 (by decide)) $$ H; iintro H
  iapply (wp_recvD m K c ⟨8, by decide⟩ (by decide) 5) $$ H; iintro H
  iapply (wp_recvY m K c ⟨5, by decide⟩ 9 (by decide)) $$ H; iintro H
  iapply (wp_recvY m K c ⟨6, by decide⟩ 9 (by decide)) $$ H; iintro H
  ihave H := (to_end m K c) $$ [H HB]
  · isplitl [H] <;> iassumption
  icases H with ⟨-, HO, HX, HY, HR9, HR7⟩
  iapply (wp_ownWait m K c) $$ [HL HO]
  · isplitr; · iexact Hr
    isplitl [HL] <;> iassumption
  iintro ⟨HL, HO⟩
  ihave H : SX m K c 0 $$ [HX HO]
  · unfold SX; rw [prog_zero]
    isplitr; · iexact Hr
    isplitl [HO] <;> iassumption
  iapply (wp_endX m K c ⟨0, by decide⟩) $$ H; iintro H
  iapply (wp_endX m K c ⟨1, by decide⟩) $$ H; iintro H
  iapply (wp_endX m K c ⟨2, by decide⟩) $$ H; iintro H
  iapply (wp_endX m K c ⟨3, by decide⟩) $$ H; iintro H
  iapply (wp_endX m K c ⟨4, by decide⟩) $$ H; iintro H
  iapply (wp_endX m K c ⟨5, by decide⟩) $$ H; iintro H
  iapply (wp_endX m K c ⟨6, by decide⟩) $$ H; iintro H
  iapply (wp_endX m K c ⟨7, by decide⟩) $$ H; iintro H
  iapply (wp_endX m K c ⟨8, by decide⟩) $$ H; iintro H
  ihave H := (show SX m K c 9 ⊢ iprop(Ow c 0 ∗ bigSep Finset.univ (X2 m c)) by
    unfold SX; rw [prog_end _ (X2 m c) 9 le_rfl]; iintro ⟨-, H⟩; iexact H) $$ H
  icases H with ⟨HO, HX⟩
  ihave H : SY m K c 0 $$ [HY HO]
  · unfold SY; rw [prog_zero]
    isplitr; · iexact Hr
    isplitl [HO] <;> iassumption
  iapply (wp_endY m K c ⟨0, by decide⟩) $$ H; iintro H
  iapply (wp_endY m K c ⟨1, by decide⟩) $$ H; iintro H
  iapply (wp_endY m K c ⟨2, by decide⟩) $$ H; iintro H
  iapply (wp_endY m K c ⟨3, by decide⟩) $$ H; iintro H
  iapply (wp_endY m K c ⟨4, by decide⟩) $$ H; iintro H
  iapply (wp_endY m K c ⟨5, by decide⟩) $$ H; iintro H
  iapply (wp_endY m K c ⟨6, by decide⟩) $$ H; iintro H
  ihave H := (show SY m K c 7 ⊢ iprop(Ow c 0 ∗ bigSep Finset.univ (Y2 m c)) by
    unfold SY; rw [prog_end _ (Y2 m c) 7 le_rfl]; iintro ⟨-, H⟩; iexact H) $$ H
  icases H with ⟨HO, HY⟩
  unfold WP; rw [wp_ret]; imodintro
  iapply Hk
  unfold post
  isplitl [HO]; · iexact HO
  isplitl [Hbar]; · iexact Hbar
  isplitl [HL]; · iexact HL
  isplitl [HR9]; · iexact HR9
  isplitl [HR7]; · iexact HR7
  isplitl [HX] <;> iassumption

end Cert.Reshard

end
-- ==== Proof.Ghost.lean ====
/-
What the launch deals: every cell of every device opened, and each device's tokens handed to the device that pays them.
-/
module

public import proofs.«01_k».proof.Proof.Body
public import proofs.«01_k».proof.Proof.Gen.KernelIdeal.Launch
public import Idealize.ShloMosaic.Lib.Pipeline.Launch
public import Idealize.ShloMosaic.Lib.Pipeline.Kit

@[expose] public section

set_option synthInstance.maxSize 1024

noncomputable section

namespace Cert.Reshard

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The cells a device has, family by family -/

/-- The cells that are the kernel's own semaphores: all but the barrier's. -/
abbrev Own : Type := Fin 9 ⊕ (Unit ⊕ (Fin 9 ⊕ (Fin 9 ⊕ (Fin 7 ⊕ (Fin 7 ⊕ (Fin 9 ⊕ Fin 7))))))

/-- The semaphore of such a cell. -/
def osem (k : Own) : SemLoc sig := semOf (.inr k)

/-- A statement for every cell is one for each family. -/
theorem cells_split (Φ : Cell → sProp 𝕄) :
    bigSep Finset.univ Φ = iprop(Φ cBar ∗ (bigSep Finset.univ fun i => Φ (cIn i)) ∗ Φ cLoc ∗ (bigSep Finset.univ fun i => Φ (cSx i))
      ∗ (bigSep Finset.univ fun i => Φ (cRx i)) ∗ (bigSep Finset.univ fun i => Φ (cSy i)) ∗ (bigSep Finset.univ fun i => Φ (cRy i))
      ∗ (bigSep Finset.univ fun i => Φ (cOx i)) ∗ bigSep Finset.univ fun i => Φ (cOy i)) := by
  rw [bigSep_univ_sum, bigSep_univ_sum, bigSep_univ_sum, bigSep_univ_sum, bigSep_univ_sum, bigSep_univ_sum, bigSep_univ_sum, bigSep_univ_sum,
    Finset.univ_unique, bigSep_singleton, bigSep_singleton]
  rfl

/-- The barrier's cell and the kernel's own together are all the cells. -/
theorem cells_own (Φ : Cell → sProp 𝕄) :
    bigSep Finset.univ Φ = iprop(Φ cBar ∗ bigSep Finset.univ fun k : Own => Φ (.inr k)) := by
  rw [bigSep_univ_sum, Finset.univ_unique, bigSep_singleton]
  rfl

/-- These cells are the kernel's own semaphores, each named once, and none is a window's. -/
theorem ownSemFacts : Pipeline.OwnSemFacts cfg0.spec osem where
  isScoped := by
    rintro (i | i | i | i | i | i | i | i) <;> revert i <;> decide
  inj := fun a b h => Sum.inr_injective (semOf_inj h)
  disj := fun k w => w.elim0

/-! ## Who pays a cell -/

/-- The device that pays cell `x` of device `c`: the partner for the barrier and for what is received, itself otherwise. -/
def payer (c : Dev nD) : Cell → Dev nD
  | .inl _ => xp c
  | .inr (.inr (.inr (.inr (.inl _)))) => xp c
  | .inr (.inr (.inr (.inr (.inr (.inr (.inl _)))))) => yp c
  | _ => c

/-- Paying is mutual. -/
theorem payer_payer (c : Dev nD) (x : Cell) : payer (payer c x) x = c := by
  rcases x with i | i | i | i | i | i | i | i | i
  case inl => exact xp_xp c
  case inr.inr.inr.inr.inl => exact xp_xp c
  case inr.inr.inr.inr.inr.inr.inl => exact yp_yp c
  all_goals rfl

/-- Paying pairs the cells up. -/
def payE : Dev nD × Cell ≃ Dev nD × Cell where
  toFun p := (payer p.1 p.2, p.2)
  invFun p := (payer p.1 p.2, p.2)
  left_inv p := Prod.ext (payer_payer p.1 p.2) rfl
  right_inv p := Prod.ext (payer_payer p.1 p.2) rfl

/-! ## The launch's element -/

/-- A cell of the mesh. -/
abbrev kp (p : Dev nD × Cell) : GSem nD τ sig := kc p.1 p.2

/-- Different devices or different cells are different semaphores. -/
theorem kp_inj : Function.Injective kp := fun p q h => Prod.ext (kc_inj h).1 (kc_inj h).2

/-- The duty tokens: one a cell, and a second for the barrier's. -/
def tokOf : Dev nD × (Cell ⊕ Unit) → GSem nD τ sig × ℕ × Bool
  | (c, .inl x) => (kc c x, 0, false)
  | (c, .inr _) => (kc c cBar, 0, true)

/-- No token is named twice. -/
theorem tokOf_inj : Function.Injective tokOf := by
  rintro ⟨c, x | u⟩ ⟨d, y | v⟩ h
  · have h' := kc_inj (congrArg (fun t : GSem nD τ sig × ℕ × Bool => t.1) h)
    rw [h'.1, h'.2]
  · exact absurd (congrArg (fun t : GSem nD τ sig × ℕ × Bool => t.2.2) h) Bool.false_ne_true
  · exact absurd (congrArg (fun t : GSem nD τ sig × ℕ × Bool => t.2.2) h).symm Bool.false_ne_true
  · have h' := kc_inj (congrArg (fun t : GSem nD τ sig × ℕ × Bool => t.1) h)
    rw [h'.1]

/-- All cells of the mesh. -/
def allCells : Finset (GSem nD τ sig) := Finset.univ.map ⟨kp, kp_inj⟩
/-- All duty tokens of the mesh. -/
def allToks : Finset (GSem nD τ sig × ℕ × Bool) := Finset.univ.map ⟨tokOf, tokOf_inj⟩

/-- The element the launch starts from: the library's own part and the protocol's. -/
def u₀ : UU := (initOf (Pipeline.cells cfgs cellOf_inj) (Pipeline.launchToks cfgs cellOf_inj), initOf allCells allToks)

/-- The tokens of a device's own cells. -/
def toks (c : Dev nD) : sProp 𝕄 :=
  iprop((bigSep Finset.univ fun x : Cell => dutyTok ER (kc c x) 0 false) ∗ dutyTok ER (kc c cBar) 0 true)

/-- The tokens a device pays with. -/
def payToks (c : Dev nD) : sProp 𝕄 :=
  iprop((bigSep Finset.univ fun x : Cell => dutyTok ER (kc (payer c x) x) 0 false) ∗ dutyTok ER (kc (yp c) cBar) 0 true)

/-- A device's positions at its cells. -/
def poss (c : Dev nD) : sProp 𝕄 := bigSep Finset.univ fun x : Cell => atPos ER (kc c x) 0 ∅ 0

/-- What the launch's element deals a device. -/
def G (c : Dev nD) : sProp 𝕄 :=
  iprop((bigSep Finset.univ fun x : Cell => roundState ER (rd m) (kc c x) 0) ∗ (poss c ∗ bigSep Finset.univ fun x : Cell => reached ER (kc c x) 0) ∗ toks c)

/-- The invariants of all cells, and that each is at its first round. -/
def opened (K : Dev nD × Cell → ℕ) : sProp 𝕄 :=
  iprop((bigSep Finset.univ fun p : Dev nD × Cell => cellInv ER (rd m) (K p) (kc p.1 p.2))
    ∗ bigSep Finset.univ fun p : Dev nD × Cell => reached ER (kc p.1 p.2) 0)

instance opened_persistent (K : Dev nD × Cell → ℕ) : BI.Persistent (opened m K) := by unfold opened; infer_instance

/-- What a device starts with once the cells are opened. -/
def G' (c : Dev nD) : sProp 𝕄 := iprop(∃ K, opened m K ∗ poss c ∗ payToks c)

/-- The launch's element is what every device is dealt. -/
theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun x : Cell => Φ (kc c x) := by
    unfold allCells; rw [bigSep_map, bigSep_univ_prod]; rfl
  have hT : bigSep allToks (fun t => (dutyTok ER t.1 t.2.1 t.2.2 : sProp 𝕄)) = bigSep Finset.univ fun c : Dev nD => toks c := by
    unfold allToks; rw [bigSep_map, bigSep_univ_prod]
    refine bigSep_congr fun c _ => ?_
    unfold toks
    rw [bigSep_univ_sum, Finset.univ_unique (α := Unit), bigSep_singleton]
    rfl
  iintro HX
  imod (Rounds.fund ER (rd m) allCells allToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G poss; simp only [bigSep_sep']
  isplitl [Hst']; · iexact Hst'
  isplitl [Hat' Hr']
  · isplitl [Hat'] <;> iassumption
  iexact Htok'

/-! ## The semaphores at launch -/

/-- The barrier's is the one semaphore the runtime owns. -/
theorem unscopedSems0_eq (c : Dev nD) : (unscopedSems0 c : sProp 𝕄) = semVal (kc c cBar) 0 := by
  unfold unscopedSems0; rw [bigSep_eq_bigSepL_of_eq [SemLoc.reg barS] (by decide) (by decide)]; rfl

/-- A device's semaphores are its cells'. -/
theorem sems_eq (c : Dev nD) :
    (bigSep Finset.univ fun x : Cell => semVal (kc c x) 0 : sProp 𝕄)
      = iprop(unscopedSems0 c ∗ Pipeline.ownSems0 (Ix := Unit) (Name := ℕ) (U := UU) (Lvl := ℕ) (Val := Elt F) (τ := τ) osem c) := by
  rw [cells_own, unscopedSems0_eq]
  rfl

/-- A device's semaphores and its cells' states become the cells' invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun x : Cell => iprop(∃ κ : ℕ, cellInv ER (rd m) κ (kc c x)))
          ∗ (poss c ∗ bigSep Finset.univ fun x : Cell => reached ER (kc c x) 0) ∗ toks c) := by
  unfold G
  iintro ⟨Hos, Hus, Hst, Hat, Htok⟩
  ihave Hv := (Entails.of_eq (sems_eq (F := F) c).symm) $$ [Hos Hus]
  · isplitl [Hus] <;> iassumption
  imod (show iprop((bigSep Finset.univ fun x : Cell => semVal (kc c x) 0) ∗ bigSep Finset.univ fun x : Cell => roundState ER (rd m) (kc c x) 0)
      ⊢ (|={Set.univ}=> bigSep Finset.univ fun x : Cell => iprop(∃ κ : ℕ, cellInv ER (rd m) κ (kc c x)) : sProp 𝕄) from by
        rw [← bigSep_sep']
        exact (bigSep_mono fun x _ => (Rounds.body_intro ER (rd m) (kc c x)).trans inv_alloc).trans (bigSep_fupd _ _)) $$ [Hv Hst] with Hinv
  · isplitl [Hv] <;> iassumption
  imodintro
  isplitl [Hinv]; · iexact Hinv
  isplitl [Hat]; · iexact Hat
  iexact Htok

/-- The tokens of the devices' own cells are, over the mesh, the tokens the devices pay with. -/
theorem toks_pay : (bigSep Finset.univ fun c : Dev nD => (toks c : sProp 𝕄)) ⊢ bigSep Finset.univ fun c : Dev nD => payToks c := by
  unfold toks payToks
  rw [bigSep_sep', bigSep_sep', ← bigSep_univ_prod (fun p : Dev nD × Cell => (dutyTok ER (kc p.1 p.2) 0 false : sProp 𝕄)),
    bigSep_univ_equiv payE (fun p : Dev nD × Cell => (dutyTok ER (kc p.1 p.2) 0 false : sProp 𝕄)), bigSep_univ_prod,
    bigSep_univ_equiv ypE (fun c : Dev nD => (dutyTok ER (kc c cBar) 0 true : sProp 𝕄))]
  exact .rfl

/-- A persistent fact shared out. -/
theorem share_out {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

/-- The invariants are named and shared out to every device, and the tokens go to the devices that pay with them. -/
theorem regroup :
    (bigSep Finset.univ fun c : Dev nD => iprop((bigSep Finset.univ fun x : Cell => iprop(∃ κ : ℕ, cellInv ER (rd m) κ (kc c x)))
          ∗ (poss c ∗ bigSep Finset.univ fun x : Cell => reached ER (kc c x) 0) ∗ toks c) : sProp 𝕄)
      ⊢ bigSep Finset.univ (G' m) := by
  rw [bigSep_sep', bigSep_sep', bigSep_sep', ← bigSep_univ_prod (fun p : Dev nD × Cell => iprop(∃ κ : ℕ, cellInv ER (rd m) κ (kc p.1 p.2))),
    ← bigSep_univ_prod (fun p : Dev nD × Cell => (reached ER (kc p.1 p.2) 0 : sProp 𝕄))]
  iintro ⟨HI, ⟨Hat, #HR⟩, Htok⟩
  ihave HK := (BI.bigSep_exists_pi Finset.univ (fun (p : Dev nD × Cell) (κ : ℕ) => (cellInv ER (rd m) κ (kc p.1 p.2) : sProp 𝕄))) $$ HI
  icases HK with ⟨%K, #HI⟩
  ihave Htk := (toks_pay (F := F)) $$ Htok
  have h₀ : ∀ c, iprop(opened m K ∗ (poss c ∗ payToks c)) ⊢ G' m c := fun c => by
    unfold G'
    iintro H; iexists K; iexact H
  iapply (share_out (R := opened m K) (Φ := fun c => iprop(poss c ∗ payToks c)) h₀)
  isplitr
  · unfold opened; isplitl; · iexact HI
    iexact HR
  · rw [bigSep_sep']
    isplitl [Hat]; · iexact Hat
    iexact Htk

/-- Every cell of every device is opened at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch's credit -/

/-- A debt at another cell is nothing here. -/
theorem tally_at (d c : Dev nD) (x y : Cell) (n : ℕ) :
    (tallyAt (kc d x) () n : CellTallies nD τ sig Unit) (kc c y) () = if d = c ∧ x = y then n else 0 := by
  by_cases h : d = c ∧ x = y
  · obtain ⟨rfl, rfl⟩ := h
    rw [if_pos ⟨rfl, rfl⟩, tallyAt_apply, if_pos ⟨rfl, rfl⟩]
  · rw [if_neg h, tallyAt_ne_cell fun h' => h (by have := kc_inj h'; exact ⟨this.1.symm, this.2.symm⟩)]
    rfl

/-- What device `d` owes a cell of device `c` across the first axis, -/
theorem OX_at (d c : Dev nD) (y : Cell) : OX d 0 (kc c y) () = ∑ i : Fin 9, if xp d = c ∧ cRx i = y then NB else 0 := by
  unfold OX
  rw [Finset.sum_apply, Finsupp.finset_sum_apply]
  exact Finset.sum_congr rfl fun i _ => by rw [if_pos (Nat.zero_le _)]; exact tally_at (xp d) c (cRx i) y NB

/-- across the second, -/
theorem OY_at (d c : Dev nD) (y : Cell) : OY d 0 (kc c y) () = ∑ i : Fin 7, if yp d = c ∧ cRy i = y then NB else 0 := by
  unfold OY
  rw [Finset.sum_apply, Finsupp.finset_sum_apply]
  exact Finset.sum_congr rfl fun i _ => by rw [if_pos (Nat.zero_le _)]; exact tally_at (yp d) c (cRy i) y NB

/-- and in all at launch. -/
theorem O₀_at (d c : Dev nD) (y : Cell) : O₀ d (kc c y) ()
    = (∑ i : Fin 9, if xp d = c ∧ cRx i = y then NB else 0) + (∑ i : Fin 7, if yp d = c ∧ cRy i = y then NB else 0)
      + (if yp d = c ∧ cBar = y then 1 else 0) + (if xp d = c ∧ cBar = y then 1 else 0) := by
  unfold O₀ O₁
  rw [Pi.add_apply, Finsupp.add_apply, Pi.add_apply, Finsupp.add_apply, Pi.add_apply, Finsupp.add_apply, OX_at, OY_at, tally_at, tally_at]

/-- A device is another's partner if the other is its partner. -/
theorem xp_iff (d c : Dev nD) : xp d = c ↔ d = xp c := ⟨fun h => h ▸ (xp_xp d).symm, fun h => h ▸ xp_xp c⟩
theorem yp_iff (d c : Dev nD) : yp d = c ↔ d = yp c := ⟨fun h => h ▸ (yp_yp d).symm, fun h => h ▸ yp_yp c⟩

/-- A sum whose every condition asks for the wrong cell is nothing, -/
theorem sum_off {n N : ℕ} (P : Prop) [Decidable P] (f : Fin n → Cell) (y : Cell) (h : ∀ i, f i ≠ y) : (∑ i : Fin n, if P ∧ f i = y then N else 0) = 0 :=
  Finset.sum_eq_zero fun i _ => if_neg fun h' => h i h'.2
/-- and one that asks for one of its own cells has that summand alone. -/
theorem sum_on {n N : ℕ} (P : Prop) [Decidable P] (f : Fin n → Cell) (hf : Function.Injective f) (j : Fin n) :
    (∑ i : Fin n, if P ∧ f i = f j then N else 0) = if P then N else 0 := by
  rw [Finset.sum_eq_single j (fun i _ hi => if_neg fun h => hi (hf h.2)) (fun h => absurd (Finset.mem_univ j) h)]
  by_cases h : P
  · rw [if_pos ⟨h, rfl⟩, if_pos h]
  · rw [if_neg fun h' => h h'.1, if_neg h]
/-- A condition that asks for the barrier's cell is false at another, -/
theorem if_off (P : Prop) [Decidable P] (y : Cell) (h : cBar ≠ y) : (if P ∧ cBar = y then 1 else 0) = 0 := if_neg fun h' => h h'.2
/-- and at the barrier's cell is its first half. -/
theorem if_on (P : Prop) [Decidable P] : (if P ∧ cBar = cBar then 1 else 0) = if P then 1 else 0 := by
  by_cases h : P
  · rw [if_pos ⟨h, rfl⟩, if_pos h]
  · rw [if_neg fun h' => h h'.1, if_neg h]

/-- The receiving cells are different from each other. -/
theorem cRx_inj : Function.Injective cRx := fun i j h => by cases h; rfl
theorem cRy_inj : Function.Injective cRy := fun i j h => by cases h; rfl

/-- The two partners owe the barrier's cell a unit each; -/
theorem owed_bar (d c : Dev nD) : O₀ d (kc c cBar) () = (if d = yp c then 1 else 0) + (if d = xp c then 1 else 0) := by
  rw [O₀_at, sum_off _ cRx _ (fun i h => by cases h), sum_off _ cRy _ (fun i h => by cases h), if_on, if_on]
  simp only [xp_iff, yp_iff, Nat.zero_add]

/-- the partner across the first axis owes each receiving cell of that axis a block; -/
theorem owed_rx (d c : Dev nD) (i : Fin 9) : O₀ d (kc c (cRx i)) () = if d = xp c then NB else 0 := by
  rw [O₀_at, sum_on _ cRx cRx_inj, sum_off _ cRy _ (fun i h => by cases h), if_off _ _ (fun h => by cases h), if_off _ _ (fun h => by cases h)]
  simp only [xp_iff, Nat.add_zero]

/-- and the partner across the second each of that axis. -/
theorem owed_ry (d c : Dev nD) (i : Fin 7) : O₀ d (kc c (cRy i)) () = if d = yp c then NB else 0 := by
  rw [O₀_at, sum_on _ cRy cRy_inj, sum_off _ cRx _ (fun i h => by cases h), if_off _ _ (fun h => by cases h), if_off _ _ (fun h => by cases h)]
  simp only [yp_iff, Nat.add_zero, Nat.zero_add]

/-- The launch's credit at a cell is what the mesh owes it. -/
theorem launch_at (c : Dev nD) (x : Cell) (n : ℕ) (h : ∑ d : Dev nD, O₀ d (kc c x) () = n) :
    tallyOn (kc c x) (launchCredit (Pipeline.owing O₀) 0 (kc c x)) = (tallyAt (kc c x) () n : CellTallies nD τ sig Unit) := by
  unfold tallyAt; refine congrArg _ (Finsupp.ext fun u => ?_); cases u
  rw [Pipeline.launchCredit_owing, Finsupp.single_eq_same, h]

/-- The launch's credit: two at the barrier's cell, a block's at each cell that receives. -/
theorem creds (c : Dev nD) :
    (Pipeline.launchCred O₀ c : sProp 𝕄) ⊢ iprop(cred (tallyAt (kc c cBar) () 2) ∗ (bigSep Finset.univ fun i : Fin 9 => cred (tallyAt (kc c (cRx i)) () NB))
      ∗ bigSep Finset.univ fun i : Fin 7 => cred (tallyAt (kc c (cRy i)) () NB)) := by
  have hB := launch_at c cBar 2 (by
    rw [Finset.sum_congr rfl fun d _ => owed_bar d c, Finset.sum_add_distrib, Finset.sum_ite_eq' Finset.univ (yp c) fun _ => 1,
      Finset.sum_ite_eq' Finset.univ (xp c) fun _ => 1, if_pos (Finset.mem_univ _), if_pos (Finset.mem_univ _)])
  have hX := fun i : Fin 9 => launch_at c (cRx i) NB (by
    rw [Finset.sum_congr rfl fun d _ => owed_rx d c i, Finset.sum_ite_eq' Finset.univ (xp c) fun _ => NB, if_pos (Finset.mem_univ _)])
  have hY := fun i : Fin 7 => launch_at c (cRy i) NB (by
    rw [Finset.sum_congr rfl fun d _ => owed_ry d c i, Finset.sum_ite_eq' Finset.univ (yp c) fun _ => NB, if_pos (Finset.mem_univ _)])
  unfold Pipeline.launchCred
  rw [bigSep_univ_equiv cellE, cells_split]
  iintro ⟨HB, -, -, -, HX, -, HY, -, -⟩
  isplitl [HB]
  · rw [← hB]; iexact HB
  isplitl [HX]
  · simp only [← hX]; iexact HX
  · simp only [← hY]; iexact HY

end Cert.Reshard
end
-- ==== Proof.Launch.lean ====
/-
The launch: what a device enters the body with and leaves it with, and the run of the whole program on the mesh.
-/
module

public import proofs.«01_k».proof.Proof.Ghost
public import Idealize.ShloMosaic.Lib.Tactic
public import Idealize.ShloMosaic.Lib.Pipeline.Quiescent

@[expose] public section

set_option synthInstance.maxSize 1024

noncomputable section

namespace Cert.Reshard

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The buffers at entry and at exit -/

/-- The six scratch buffers, with any contents. -/
def scr (c : Dev nD) : sProp 𝕄 := iprop(Any stageM c ∗ Any sendM c ∗ Any rxM c ∗ Any ryM c ∗ Any rxfM c ∗ Any ryfM c)

/-- The buffers of the region are the six scratch buffers. -/
theorem scr_eq (c : Dev nD) :
    (Pipeline.scopedRest (Ix := Unit) (Name := ℕ) (U := UU) (Lvl := ℕ) (Val := Elt F) cfg0.spec c : sProp 𝕄) = scr c := by
  rw [scopedRest0_eq]
  unfold scr Any pts
  simp only [Memref.view_whole, View.set_whole]

/-- The part of the argument that no transfer reads. -/
def rest (c : Dev nD) : sProp 𝕄 :=
  (c : Thread nD τ).loc main_arg0 ↦[Finset.univ \ Finset.univ.biUnion (iset c)]{fullShare} xA m c

/-- A piece with some contents is a piece with any. -/
theorem any_of {sp : Space} {s : Shape} {e : EltTy} (v : Memref sig .tc sp s e) (c : Dev nD) (f : Buf (Elt F) (v.view.loc (c : Thread nD τ))) :
    (pts v c fullShare f : sProp 𝕄) ⊢ Any v c := by
  unfold Any; iintro H; iexists f; iexact H

/-- The result's pieces, from the whole. -/
theorem out_any (c : Dev nD) (f : S2048x512.Idx → Elt F .f32) :
    ((c : Thread nD τ).loc main_v1 ↦{fullShare} f : sProp 𝕄)
      ⊢ iprop(Any (oloc c) c ∗ (bigSep Finset.univ fun i => Any (orx c i) c) ∗ bigSep Finset.univ fun i => Any (ory c i) c) := by
  have hx : (bigSep Finset.univ fun i => pts (orx c i) c fullShare f : sProp 𝕄) ⊢ bigSep Finset.univ fun i => Any (orx c i) c :=
    bigSep_mono fun i _ => any_of (orx c i) c f
  have hy : (bigSep Finset.univ fun i => pts (ory c i) c fullShare f : sProp 𝕄) ⊢ bigSep Finset.univ fun i => Any (ory c i) c :=
    bigSep_mono fun i _ => any_of (ory c i) c f
  rw [pts_out]
  exact BI.sep_mono (any_of (oloc c) c f) (BI.sep_mono hx hy)

/-- A scratch buffer of nine slots, from the slots; -/
theorem join9 {e : EltTy} (b : Memref sig .tc .vmem S9x64x512 e) (c : Dev nD) (f : Buf (Elt F) (b.view.loc (c : Thread nD τ))) :
    (bigSep Finset.univ fun i => pts (slot9 b i) c fullShare f : sProp 𝕄) ⊢ Any b c := by
  rw [← pts_slots9]; exact any_of b c f
/-- of seven. -/
theorem join7 {e : EltTy} (b : Memref sig .tc .vmem S7x64x512 e) (c : Dev nD) (f : Buf (Elt F) (b.view.loc (c : Thread nD τ))) :
    (bigSep Finset.univ fun i => pts (slot7 b i) c fullShare f : sProp 𝕄) ⊢ Any b c := by
  rw [← pts_slots7]; exact any_of b c f

/-- The receiving buffer, whose first seven slots were read by two transfers at once. -/
theorem join_rx (c : Dev nD) :
    iprop((bigSep Finset.univ fun i => pts (slot9 rxM i) c (shr i) (rxF m c)) ∗ bigSep Finset.univ fun i => pts (slot9 rxM (up i)) c fullShare.left (rxF m c))
      ⊢ (Any rxM c : sProp 𝕄) := by
  have hs : ∀ Φ : Fin 9 → sProp 𝕄, bigSep Finset.univ Φ
      = iprop((bigSep Finset.univ fun i : Fin 7 => Φ (up i)) ∗ bigSep Finset.univ fun i : Fin 2 => Φ (Fin.natAdd 7 i)) := fun Φ => by
    rw [bigSep_univ_equiv (finSumFinEquiv (m := 7) (n := 2)) Φ, bigSep_univ_sum]
    rfl
  have h7 : ∀ i : Fin 7, iprop(pts (slot9 rxM (up i)) c fullShare.left (rxF m c) ∗ pts (slot9 rxM (up i)) c (shr (up i)) (rxF m c))
      ⊢ (pts (slot9 rxM (up i)) c fullShare (rxF m c) : sProp 𝕄) := fun i => by
    rw [shr_up]
    exact (pointsTo_share (PosShare.mem_left_op_right fullShare)).2
  have h2 : ∀ i : Fin 2, (pts (slot9 rxM (Fin.natAdd 7 i)) c (shr (Fin.natAdd 7 i)) (rxF m c) : sProp 𝕄)
      ⊢ pts (slot9 rxM (Fin.natAdd 7 i)) c fullShare (rxF m c) := fun i => by
    rw [show shr (Fin.natAdd 7 i) = fullShare from if_neg (by show ¬ 7 + i.val < 7; omega)]
  rw [hs (fun i => pts (slot9 rxM i) c (shr i) (rxF m c))]
  iintro ⟨⟨H7, H2⟩, HL⟩
  iapply (join9 rxM c (rxF m c))
  rw [hs (fun i => pts (slot9 rxM i) c fullShare (rxF m c))]
  isplitl [H7 HL]
  · iapply (show iprop((bigSep Finset.univ fun i => pts (slot9 rxM (up i)) c fullShare.left (rxF m c)) ∗ bigSep Finset.univ fun i => pts (slot9 rxM (up i)) c (shr (up i)) (rxF m c))
      ⊢ (bigSep Finset.univ fun i : Fin 7 => pts (slot9 rxM (up i)) c fullShare (rxF m c) : sProp 𝕄) from by
        rw [← bigSep_sep']; exact bigSep_mono fun i _ => h7 i)
    isplitl [HL] <;> iassumption
  · iapply (show (bigSep Finset.univ fun i : Fin 2 => pts (slot9 rxM (Fin.natAdd 7 i)) c (shr (Fin.natAdd 7 i)) (rxF m c) : sProp 𝕄) ⊢ _ from bigSep_mono fun i _ => h2 i)
    iexact H2

/-! ## Entry and exit -/

/-- The credit a device is launched with. -/
def crs (c : Dev nD) : sProp 𝕄 :=
  iprop(cred (tallyAt (kc c cBar) () 2) ∗ (bigSep Finset.univ fun i : Fin 9 => cred (tallyAt (kc c (cRx i)) () (amt (cRx i))))
    ∗ bigSep Finset.univ fun i : Fin 7 => cred (tallyAt (kc c (cRy i)) () (amt (cRy i))))

/-- The tokens a device pays with, family by family. -/
theorem payToks_split (c : Dev nD) : (payToks c : sProp 𝕄)
    = iprop((dutyTok ER (kc (xp c) cBar) 0 false ∗ (bigSep Finset.univ fun i => dutyTok ER (kc c (cIn i)) 0 false) ∗ dutyTok ER (kc c cLoc) 0 false
      ∗ (bigSep Finset.univ fun i => dutyTok ER (kc c (cSx i)) 0 false) ∗ (bigSep Finset.univ fun i => dutyTok ER (kc (xp c) (cRx i)) 0 false)
      ∗ (bigSep Finset.univ fun i => dutyTok ER (kc c (cSy i)) 0 false) ∗ (bigSep Finset.univ fun i => dutyTok ER (kc (yp c) (cRy i)) 0 false)
      ∗ (bigSep Finset.univ fun i => dutyTok ER (kc c (cOx i)) 0 false) ∗ bigSep Finset.univ fun i => dutyTok ER (kc c (cOy i)) 0 false)
      ∗ dutyTok ER (kc (yp c) cBar) 0 true) := by
  unfold payToks; rw [cells_split]; rfl

set_option maxHeartbeats 1600000 in
/-- What the launch hands a device is what its body starts from, and a rest of the argument. -/
theorem enter (c : Dev nD) (f : S2048x512.Idx → Elt F .f32) :
    iprop(poss c ∗ payToks c ∗ crs c ∗ ((c : Thread nD τ).loc main_arg0 ↦{fullShare} xA m c) ∗ ((c : Thread nD τ).loc main_v1 ↦{fullShare} f) ∗ scr c ∗ Ow c (O₀ c))
      ⊢ (iprop(pre m c ∗ rest m c) : sProp 𝕄) := by
  rw [payToks_split]
  unfold poss crs
  rw [cells_split]
  unfold scr
  iintro ⟨⟨PB, PI, PL, PSx, PRx, PSy, PRy, POx, POy⟩, ⟨⟨TB, TI, TL, TSx, TRx, TSy, TRy, TOx, TOy⟩, TB'⟩, ⟨CB, CX, CY⟩, Hx, Ho, ⟨SS, SD, SX, SY, SFX, SFY⟩, HO⟩
  ihave Hx := (pts_in c (xA m c)).1 $$ Hx
  icases Hx with ⟨⟨XL, XI⟩, HR⟩
  ihave Ho := (out_any c f) $$ Ho
  icases Ho with ⟨OL, OX, OY⟩
  ihave SS := (any_slots9 stageM c) $$ SS
  ihave SD := (any_slots9 sendM c) $$ SD
  ihave SFX := (any_slots9 rxfM c) $$ SFX
  ihave SFY := (any_slots7 ryfM c) $$ SFY
  isplitr [HR]
  · unfold pre Bar0 Loc0 A0 B00 C0 Y00 D0 Fresh Busy
    simp only [bigSep_sep']
    isplitl [TB TB' SX SY HO]
    · isplitl [TB]; · iexact TB
      isplitl [TB']; · iexact TB'
      isplitl [SX]; · iexact SX
      isplitl [SY]; · iexact SY
      iexact HO
    isplitl [PB CB]
    · isplitl [PB]; · iexact PB
      iexact CB
    isplitl [PL TL XL OL]
    · isplitl [PL TL]
      · isplitl [PL]; · iexact PL
        iexact TL
      isplitl [XL]; · iexact XL
      iexact OL
    isplitl [PI TI XI SS]
    · isplitl [PI TI]
      · isplitl [PI]; · iexact PI
        iexact TI
      isplitl [XI]; · iexact XI
      iexact SS
    isplitl [SD PSx TSx TRx]
    · isplitl [SD]; · iexact SD
      isplitl [PSx TSx]
      · isplitl [PSx]; · iexact PSx
        iexact TSx
      iexact TRx
    isplitl [PRx CX SFX POx TOx OX]
    · isplitl [PRx CX]
      · isplitl [PRx]; · iexact PRx
        iexact CX
      isplitl [SFX]; · iexact SFX
      isplitl [POx TOx]
      · isplitl [POx]; · iexact POx
        iexact TOx
      iexact OX
    isplitl [PSy TSy TRy]
    · isplitl [PSy TSy]
      · isplitl [PSy]; · iexact PSy
        iexact TSy
      iexact TRy
    isplitl [PRy CY]
    · isplitl [PRy]; · iexact PRy
      iexact CY
    isplitl [SFY]; · iexact SFY
    isplitl [POy TOy]
    · isplitl [POy]; · iexact POy
      iexact TOy
    iexact OY
  · unfold rest; iexact HR

/-- What a device leaves the body with: every semaphore at zero, the scratch buffers, the argument as it was, the result. -/
def Φ₁ (c : Dev nD) : sProp 𝕄 :=
  iprop((bigSep Finset.univ fun x : Cell => semVal (kc c x) 0) ∗ scr c ∗ ((c : Thread nD τ).loc main_arg0 ↦{fullShare} xA m c) ∗ ((c : Thread nD τ).loc main_v1 ↦{fullShare} outF m c))

set_option maxHeartbeats 1600000 in
theorem leave (c : Dev nD) : iprop(post m c ∗ rest m c) ⊢ (iprop(Ow c 0 ∗ Φ₁ m c) : sProp 𝕄) := by
  unfold post Loc2 R9 R7 X2 Y2 Done rest
  simp only [bigSep_sep']
  iintro ⟨⟨HO, ZB, ⟨ZL, OL, XL⟩, ⟨⟨ZI, SS, XI⟩, ZRx, SX⟩, ⟨ZRy, SY⟩, ⟨⟨ZSx, SD⟩, ZOx, OX, SFX⟩, ⟨ZSy, SX'⟩, ZOy, OY, SFY⟩, HR⟩
  isplitl [HO]; · iexact HO
  unfold Φ₁
  isplitl [ZB ZL ZI ZRx ZRy ZSx ZOx ZSy ZOy]
  · rw [cells_split]
    isplitl [ZB]; · iexact ZB
    isplitl [ZI]; · iexact ZI
    isplitl [ZL]; · iexact ZL
    isplitl [ZSx]; · iexact ZSx
    isplitl [ZRx]; · iexact ZRx
    isplitl [ZSy]; · iexact ZSy
    isplitl [ZRy]; · iexact ZRy
    isplitl [ZOx]; · iexact ZOx
    iexact ZOy
  isplitl [SS SX SX' SY SD SFX SFY]
  · unfold scr
    isplitl [SS]; · iapply (join9 stageM c (stageF m c)); iexact SS
    isplitl [SD]; · iapply (join9 sendM c (sendF m c)); iexact SD
    isplitl [SX SX']
    · iapply (join_rx m c)
      isplitl [SX]; · iexact SX
      iexact SX'
    isplitl [SY]; · iapply (join7 ryM c (ryF m c)); iexact SY
    isplitl [SFX]; · iapply (join9 rxfM c (rxfF m c)); iexact SFX
    iapply (join7 ryfM c (ryfF m c)); iexact SFY
  isplitl [XL XI HR]
  · iapply (pts_in c (xA m c)).2
    isplitl [XL XI]
    · isplitl [XL]; · iexact XL
      iexact XI
    iexact HR
  · rw [pts_out]
    isplitl [OL]; · iexact OL
    isplitl [OX]; · iexact OX
    iexact OY

/-! ## The region -/

/-- What a device starts the region with. -/
def start (c : Dev nD) : sProp 𝕄 :=
  iprop((∃ K, recs m K ∗ poss c ∗ payToks c) ∗ crs c ∗ ((c : Thread nD τ).loc main_arg0 ↦{fullShare} xA m c)
    ∗ ((c : Thread nD τ).loc main_v1 ↦{fullShare} (m ((c : Thread nD τ).loc main_v1) : S2048x512.Idx → Elt F .f32)))

/-- What the body is entered with: the start, and the scratch buffers. -/
def Φ₀ (c : Dev nD) : sProp 𝕄 := iprop(start m c ∗ scr c)

/-- The region's data: it has no windows, and the device's debts are paid by its one step. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

/-- From the start of the region the body runs to its end. -/
theorem body_sound (c : Dev nD) (Q : PUnit → sProp 𝕄) :
    iprop(Φ₀ m c ∗ Ow c (O₀ c) ∗ ((Ow c 0 ∗ Φ₁ m c) -∗ Q ⟨⟩)) ⊢ WP c (bodyAt0 (F := F) t0_0) Q := by
  unfold Φ₀ start
  iintro ⟨⟨⟨⟨%K, HI, HP, HT⟩, HC, Hx, Ho⟩, HS⟩, HO, HQ⟩
  ihave H := (enter m c _) $$ [HP HT HC Hx Ho HS HO]
  · isplitl [HP]; · iexact HP
    isplitl [HT]; · iexact HT
    isplitl [HC]; · iexact HC
    isplitl [Hx]; · iexact Hx
    isplitl [Ho]; · iexact Ho
    isplitl [HS]; · iexact HS
    iexact HO
  icases H with ⟨HP, HR⟩
  iapply (body_run m K c Q)
  isplitl [HI]; · iexact HI
  isplitl [HP]; · iexact HP
  iintro Hpost
  iapply HQ
  iapply (leave m c)
  isplitl [Hpost]; · iexact Hpost
  iexact HR

set_option maxRecDepth 65536 in
/-- The body meets what the region asks of it. -/
theorem body_obligation (c : Dev nD) : BodyObligation (dats (F := F) m 0 c) (defs₀ (F := F)) 𝒱₀ () Set.univ := fun t => by
  rw [fin_N0 t]
  rw [show (Finset.univ : Finset (Fin cfg0.W)) = ∅ from rfl, bigSep_empty, bigSep_empty]
  show iprop(Φ₀ m c ∗ (dats m 0 c).owesAt () t0_0.castSucc ∗ emp)
    ⊢ WP c (bodyAt0 (F := F) t0_0) (fun _ => iprop(Φ₁ m c ∗ (dats m 0 c).owesAt () t0_0.succ ∗ emp))
  unfold Dat.owesAt Pipeline.owesWithin
  rw [show (dats m 0 c).owed t0_0.castSucc = O₀ c from rfl, show (dats m 0 c).owed t0_0.succ = 0 from rfl]
  iintro ⟨HΦ, ⟨%W, %hW, HO⟩, -⟩
  iapply (body_sound m c _)
  isplitl [HΦ]; · iexact HΦ
  isplitl [HO]
  · unfold Ow; iexists W; iexact HO
  unfold Ow
  iintro ⟨⟨%W', HO⟩, HΦ⟩
  isplitl [HΦ]; · iexact HΦ
  isplitl [HO]
  · iexists W'
    isplitr; · ipureintro; exact fun _ _ => Or.inl trivial
    iexact HO
  iempintro

/-- What a device is launched with is what the region starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Hx, Ho⟩, #HL, HC, -, HG⟩
  unfold G' opened
  icases HG with ⟨%K, ⟨#HI, #HR⟩, HP, HT⟩
  ihave HC := (show (Pipeline.launchCred O₀ c : sProp 𝕄) ⊢ crs c from creds c) $$ HC
  imodintro
  isplitl
  · unfold start recs
    isplitl [HP HT]
    · iexists K
      isplitr
      · isplitr; · iexact HI
        isplitr; · iexact HR
        iexact HL
      isplitl [HP]; · iexact HP
      iexact HT
    isplitl [HC]; · iexact HC
    isplitl [Hx]; · iexact Hx
    iexact Ho
  · iempintro

/-- The region's first assertion, from the start and its buffers. -/
theorem phi_in (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scr_eq]
  unfold Φ₀
  iintro ⟨Hs, -, Hr⟩
  isplitl [Hs]; · iexact Hs
  iexact Hr

/-- What a device ends with, outside the region. -/
def fin (c : Dev nD) : sProp 𝕄 :=
  iprop(unscopedSems0 c ∗ ((c : Thread nD τ).loc main_arg0 ↦{fullShare} xA m c) ∗ ((c : Thread nD τ).loc main_v1 ↦{fullShare} outF m c))

/-- Its last one gives back the semaphores at zero and the buffers. -/
theorem phi_out (c : Dev nD) :
    (dats m 0 c).Φ (Fin.last cfg0.N) ⊢ iprop(fin m c ∗ Pipeline.ownSems0 osem c ∗ Pipeline.scopedRest cfg0.spec c) := by
  rw [show (dats m 0 c).Φ (Fin.last cfg0.N) = Φ₁ m c from rfl, scr_eq]
  unfold Φ₁ fin
  rw [sems_eq]
  iintro ⟨⟨HU, HZ⟩, HS, Hx, Ho⟩
  isplitl [HU Hx Ho]
  · isplitl [HU]; · iexact HU
    isplitl [Hx]; · iexact Hx
    iexact Ho
  isplitl [HZ]; · iexact HZ
  iexact HS

/-! ## The run -/

/-- How a device's memory ends: the argument as it was, the result computed. -/
def Ends (c : Dev nD) (s : MemSt nD τ sig (Elt F)) : Prop :=
  s.mem ((c : Thread nD τ).loc main_v1) = outF m c ∧ s.mem ((c : Thread nD τ).loc main_arg0) = m ((c : Thread nD τ).loc main_arg0)

/-- The end of a device read off the final state. -/
theorem fin_read (c : Dev nD) (s' : Phys nD τ sig (Elt F)) :
    iprop(fin m c ∗ emp ∗ SI s') ⊢ |={Set.univ}=> (iprop(⌜Ends m c s'.mem ∧ ∀ sm : SemLoc sig, sm.isScoped .tc = false → s'.mem.sem ((c.tc : Thread nD τ), sm) = 0⌝ ∗ SI s') : sProp 𝕄) := by
  unfold fin
  iintro ⟨⟨HU, Hx, Ho⟩, -, HS⟩
  ihave %hz := (tcUnscoped_read c s') $$ [HU HS]
  · isplitl [HU] <;> iassumption
  icombine HS Hx gives %hx
  icombine HS Ho gives %ho
  imodintro
  isplitr
  · ipureintro
    exact ⟨⟨Buf.eq_of_forall_mem_univ ho, Buf.eq_of_forall_mem_univ hx⟩, hz⟩
  iexact HS

/-- There are no windows to wait for. -/
theorem waits (c : Dev nD) : (levAts L lv : sProp 𝕄) ⊢ Pipeline.cellsWaits cfgs (dats m) () 0 c :=
  Pipeline.cellsWaits_intro cfgs (dats m) () 0 c fun w s t => w.elim0

set_option maxRecDepth 65536 in
/-- On the mesh of four devices, for any float values, from any memory with zero counters, the program ends, and every
    final state has each device's result computed, its argument as it was and every semaphore counter at zero. -/
theorem run_main : θ_run defs (onTc (τ := τ) (main (F := F))) (s₀ m ρ) (fun r => (∀ c : Dev nD, Ends m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun c w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ w => w.elim0) (hpf := fun _ k => k.elim0)
    (X := start m) (Y := fin m) (Z := fun _ => iprop(emp))
    (hX := start_intro m ρ) (hin := phi_in m) (hout := phi_out m)
    (QY := fun c s => Ends m c s ∧ ∀ sm : SemLoc sig, sm.isScoped .tc = false → s.sem ((c.tc : Thread nD τ), sm) = 0)
    (hY := fin_read m)
    (hQ := fun _ h hs => ⟨fun c => (h c).2.2.1, sem_eq_zero hs fun c => (h c).2.2.2⟩)

end Cert.Reshard
end
-- ==== Proof.Value.lean ====
/-
The value: with exact floats the result of every device is its block of the whole array's columns; and the reference's run.
-/
module

public import proofs.«01_k».proof.Proof.Launch
public import proofs.«01_k».proof.Proof.Gen.ReferenceIdeal
public import Idealize.ShloMosaic.Lib.StableHlo.Run
public import Idealize.ShloMosaic.Lib.Quiescent
public import Idealize.ShloMosaic.Lib.Layout
public import Idealize.ShloMosaic.PureOps.Ideal

@[expose] public section

noncomputable section

namespace Cert.Reshard

open Cert.KernelIdeal Cert.KernelIdeal.Gen

open Idealize.ShloMosaic
open Idealize.ShloMosaic.TcCoe
open Idealize.SL.Sem

/-! ## The result as a block -/

/-- The whole array's index at a row and a column. -/
def ixW (r k : ℕ) : (⟨2, ![2048, 1024]⟩ : Shape).Idx :=
  Shape.pair (d := ![2048, 1024]) ⟨r % 2048, Nat.mod_lt _ (by decide)⟩ ⟨k % 1024, Nat.mod_lt _ (by decide)⟩

variable {α : Type} (v : (⟨2, ![2048, 1024]⟩ : Shape).Idx → α)

/-- Device `c`'s block along the rows, at an element; -/
theorem rows_at (c : Dev nD) (r k : ℕ) (hr : r < 1024) :
    Layout.blockN ⟨2, ![1024, 1024]⟩ ⟨2, ![2048, 1024]⟩ (Layout.meshBlock [2, 2] ![[0], []] c) v (by decide) (ix2 r k) = v (ixW (c.val / 2 * 1024 + r) k) := by
  have hc : c.val < 4 := c.isLt
  refine congrArg v (funext fun b => Fin.ext ?_)
  rw [Layout.TilesN.idx_val]
  fin_cases b
  · show (c.val / 2 % 2 * 1 + 0) * 1024 + r % 1024 = (c.val / 2 * 1024 + r) % 2048
    omega
  · show 0 * 1024 + k % 1024 = k % 1024
    omega

/-- along the columns. -/
theorem cols_at (c : Dev nD) (y : S2048x512.Idx) :
    Layout.blockN ⟨2, ![2048, 512]⟩ ⟨2, ![2048, 1024]⟩ (Layout.meshBlock [2, 2] ![[], [0]] c) v (by decide) y = v (ixW (y 0).val (c.val / 2 * 512 + (y 1).val)) := by
  have hc : c.val < 4 := c.isLt
  have h0 : (y 0).val < 2048 := (y 0).isLt
  have h1 : (y 1).val < 512 := (y 1).isLt
  refine congrArg v (funext fun b => Fin.ext ?_)
  rw [Layout.TilesN.idx_val]
  fin_cases b
  · show 0 * 2048 + (y 0).val = (y 0).val % 2048
    omega
  · show (c.val / 2 % 2 * 1 + 0) * 512 + (y 1).val = (c.val / 2 * 512 + (y 1).val) % 1024
    omega

/-- The device a row comes from lies in the other row of the mesh. -/
theorem srcDev_row (c : Dev nD) (r : ℕ) : (srcDev c r).val / 2 = 1 - c.val / 2 := by
  have h : ∀ c : Dev nD, (xp (yp c)).val / 2 = 1 - c.val / 2 ∧ (xp c).val / 2 = 1 - c.val / 2 := by decide
  unfold srcDev
  split
  · exact (h c).1
  · exact (h c).2

variable (m : (ℓ : Loc nD τ sig) → Buf (Elt Ideal) ℓ)

/-- With exact floats every device's result is its block of the whole array. -/
theorem outF_block (v : (⟨2, ![2048, 1024]⟩ : Shape).Idx → Elt Ideal .f32)
    (h : ∀ c : Dev nD, m ((c : Thread nD τ).loc main_arg0) = Layout.blockN ⟨2, ![1024, 1024]⟩ ⟨2, ![2048, 1024]⟩ (Layout.meshBlock [2, 2] ![[0], []] c) v (by decide)) (c : Dev nD) :
    outF m c = Layout.blockN ⟨2, ![2048, 512]⟩ ⟨2, ![2048, 1024]⟩ (Layout.meshBlock [2, 2] ![[], [0]] c) v (by decide) := by
  funext y
  have hc : c.val < 4 := c.isLt
  have h0 : (y 0).val < 2048 := (y 0).isLt
  have hx : ∀ (d : Dev nD) (k : ℕ), d.val / 2 = (y 0).val / 1024 → xA m d (ix2 ((y 0).val % 1024) k) = v (ixW (y 0).val k) := fun d k hd => by
    unfold xA
    rw [h d, rows_at v d _ k (Nat.mod_lt _ (by decide)), hd, show (y 0).val / 1024 * 1024 + (y 0).val % 1024 = (y 0).val by omega]
  rw [cols_at]
  unfold outF
  split
  · next e => exact hx c _ e.symm
  · next e => exact hx _ _ (by rw [srcDev_row]; omega)

end Cert.Reshard

namespace Cert.Reshard.Ref

open Cert.ReferenceIdeal Cert.ReferenceIdeal.Gen
open Idealize.ShloMosaic Idealize.ShloMosaic.TcCoe Idealize.ShloMosaic.StableHlo Idealize.SL.Sem

/-- The reference's program does nothing: its result is its argument. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ c : Dev nD, r.2.mem ((c.tc : Thread nD τ).loc main_arg0) = m ((c.tc : Thread nD τ).loc main_arg0) :=
  (θ_run defs _ _).mono (fun _ h c => h c main_arg0)
    (run_seq (by decide) (by decide) defs main (fun _ => []) (fun _ => rfl) (fun _ => trivial) m ρ)

end Cert.Reshard.Ref
end
-- ==== Proof.lean ====
/-
The proof of `Cert.Claim` (Defs.lean). The kernel's run is proved once, for any float values (Proof/Launch.lean): both
frame claims about the kernel and its half of the value claim are that run read at one instance or the other. The value
of the result is computed in Proof/Value.lean, and the reference is a program that returns its argument.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Value

@[expose] public section

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts

/-- The kernel with the bit patterns of its floats: it ends, its argument unchanged and every counter at zero. -/
theorem frame_kernel : Cert.quiescent_Kernel := fun m ρ _ =>
  (θ_run Cert.KernelIdeal.defs _ _).mono (fun _ h => ⟨fun c => (h.1 c).2, h.2⟩) (Cert.Reshard.run_main (F := Bits) m ρ)

/-- The same with exact floats. -/
theorem frame_ideal : Cert.quiescent_KernelIdeal := fun m ρ _ =>
  (θ_run Cert.KernelIdeal.defs _ _).mono (fun _ h => ⟨fun c => (h.1 c).2, h.2⟩) (Cert.Reshard.run_main (F := Ideal) m ρ)

/-- The reference ends, its argument unchanged; it has no semaphore. -/
theorem frame_reference : Cert.quiescent_ReferenceIdeal := fun m ρ _ =>
  (θ_run Cert.ReferenceIdeal.defs _ _).mono (fun r h => ⟨h, sem_eq_zero_of_no_sems (by decide) r.2⟩) (Cert.Reshard.Ref.run m ρ)

/-- With exact floats the kernel's result, put together from the devices' blocks, is the reference's: the whole array. -/
theorem value : Cert.algebraic_KernelIdeal_ReferenceIdeal := fun m ρ m' ρ' _ hx =>
  ⟨_, (θ_run Cert.KernelIdeal.defs _ _).mono
      (fun _ h c => ⟨(h.1 c).1.trans (Cert.Reshard.outF_block m _ hx c), (h.1 c).2⟩) (Cert.Reshard.run_main (F := Ideal) m ρ),
    (θ_run Cert.ReferenceIdeal.defs _ _).mono (fun _ h => ⟨h 0, h 0⟩) (Cert.Reshard.Ref.run m' ρ')⟩

theorem claim : Cert.Claim :=
  ⟨Cert.Kernel.Gen.facts, Cert.KernelIdeal.Gen.facts, Cert.ReferenceIdeal.Gen.facts,
    frame_kernel, frame_ideal, frame_reference, trivial, value⟩

end Cert.Proof

end
